-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_m_scale_not_zero [hPre_m_scale_not_zero : Cert.Pre_m_scale_not_zero.Facts] (m : (ℓ : Loc Cert.KernelIdeal.nD Cert.KernelIdeal.τ Cert.KernelIdeal.sig) → Buf (Elt Ideal) ℓ) : Prop :=
  ∀ c : Dev Cert.KernelIdeal.nD,
    (Cert.Pre_m_scale_not_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_m_scale_not_zero [hPre_m_scale_not_zero : Cert.Pre_m_scale_not_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_m_scale_not_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_m_scale_not_zero [hKernelIdeal : Cert.KernelIdeal.Facts] [hPre_m_scale_not_zero : Cert.Pre_m_scale_not_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_m_scale_not_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_m_scale_not_zero [hReferenceIdeal : Cert.ReferenceIdeal.Facts] [hPre_m_scale_not_zero : Cert.Pre_m_scale_not_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_m_scale_not_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "inv_cell" .f32 0x3A4CCCCD#32 ((1 / 1280 : ℝ) : EReal)

def algebraic_KernelIdeal_ReferenceIdeal_pre_m_scale_not_zero [hKernelIdeal : Cert.KernelIdeal.Facts] [hReferenceIdeal : Cert.ReferenceIdeal.Facts] [hPre_m_scale_not_zero : Cert.Pre_m_scale_not_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_m_scale_not_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)) (v3 : (c : Dev Cert.KernelIdeal.nD) → Buf (Elt Ideal) ((c.tc : Thread Cert.KernelIdeal.nD Cert.KernelIdeal.τ).loc Cert.KernelIdeal.main_v18_3)) (v4 : (c : Dev Cert.KernelIdeal.nD) → Buf (Elt Ideal) ((c.tc : Thread Cert.KernelIdeal.nD Cert.KernelIdeal.τ).loc Cert.KernelIdeal.main_v18_4)) (v5 : (c : Dev Cert.KernelIdeal.nD) → Buf (Elt Ideal) ((c.tc : Thread Cert.KernelIdeal.nD Cert.KernelIdeal.τ).loc Cert.KernelIdeal.main_v18_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_v18_3) = v3 c
          ∧ r.2.mem ((c.tc : Thread Cert.KernelIdeal.nD Cert.KernelIdeal.τ).loc Cert.KernelIdeal.main_v18_4) = v4 c
          ∧ r.2.mem ((c.tc : Thread Cert.KernelIdeal.nD Cert.KernelIdeal.τ).loc Cert.KernelIdeal.main_v18_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14_0) = v0 c
          ∧ r.2.mem ((c.tc : Thread Cert.ReferenceIdeal.nD Cert.ReferenceIdeal.τ).loc Cert.ReferenceIdeal.main_v14_1) = v1 c
          ∧ r.2.mem ((c.tc : Thread Cert.ReferenceIdeal.nD Cert.ReferenceIdeal.τ).loc Cert.ReferenceIdeal.main_v14_2) = v2 c
          ∧ r.2.mem ((c.tc : Thread Cert.ReferenceIdeal.nD Cert.ReferenceIdeal.τ).loc Cert.ReferenceIdeal.main_v14_3) = v3 c
          ∧ r.2.mem ((c.tc : Thread Cert.ReferenceIdeal.nD Cert.ReferenceIdeal.τ).loc Cert.ReferenceIdeal.main_v14_4) = v4 c
          ∧ r.2.mem ((c.tc : Thread Cert.ReferenceIdeal.nD Cert.ReferenceIdeal.τ).loc Cert.ReferenceIdeal.main_v14_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_m_scale_not_zero : Cert.Pre_m_scale_not_zero.Facts),
    quiescent_Kernel (hKernel := hKernel)
    ∧ quiescent_KernelIdeal (hKernelIdeal := hKernelIdeal)
    ∧ quiescent_KernelIdeal_pre_m_scale_not_zero (hKernelIdeal := hKernelIdeal) (hPre_m_scale_not_zero := hPre_m_scale_not_zero)
    ∧ quiescent_ReferenceIdeal (hReferenceIdeal := hReferenceIdeal)
    ∧ quiescent_ReferenceIdeal_pre_m_scale_not_zero (hReferenceIdeal := hReferenceIdeal) (hPre_m_scale_not_zero := hPre_m_scale_not_zero)
    ∧ preserves_Kernel_KernelIdeal
    ∧ algebraic_KernelIdeal_ReferenceIdeal_pre_m_scale_not_zero (hKernelIdeal := hKernelIdeal) (hReferenceIdeal := hReferenceIdeal) (hPre_m_scale_not_zero := hPre_m_scale_not_zero)
-- ==== Pre_m_scale_not_zero.lean ====
abbrev S768x64x320 : Shape := ⟨3, ![768, 64, 320]⟩
abbrev S768x64 : Shape := ⟨2, ![768, 64]⟩
abbrev S768 : Shape := ⟨1, ![768]⟩
abbrev S5120x320 : Shape := ⟨2, ![5120, 320]⟩
abbrev S5120 : Shape := ⟨1, ![5120]⟩
abbrev S4x1280 : Shape := ⟨2, ![4, 1280]⟩
abbrev S320x1280 : Shape := ⟨2, ![320, 1280]⟩
abbrev S320 : Shape := ⟨1, ![320]⟩
abbrev S_ : Shape := ⟨0, ![]⟩
abbrev S768x320 : Shape := ⟨2, ![768, 320]⟩
abbrev S768x1280 : Shape := ⟨2, ![768, 1280]⟩

class Facts : Prop where

variable [Facts]

def fn {F : FTy → Type} [FloatOps F] (main_arg0 : IVec S768x64x320 8) (main_arg1 : FVec F S768x64 .f32) (main_arg2 : IVec S768 32) (main_arg3 : IVec S768 32) (main_arg4 : IVec S5120x320 8) (main_arg5 : FVec F S5120 .f32) (main_arg6 : IVec S5120x320 8) (main_arg7 : FVec F S5120 .f32) (main_arg8 : FVec F S4x1280 .f32) (main_arg9 : FVec F S4x1280 .f32) (main_arg10 : IVec S320x1280 8) (main_arg11 : FVec F S320 .f32) (main_arg12 : FVec F S_ .f32) (main_arg13 : IVec S768x320 8) (main_arg14 : FVec F S768 .f32) (main_arg15 : FVec F S768x1280 .f32) : IVec S_ 1 :=
  let main_cst : FVec F S_ .f32 := constant S_ .f32 0x00000000#32
  let main_v0 : IVec S_ 1 := cmpf .une main_arg12 main_cst
  main_v0
-- ==== Kernel.lean ====
abbrev S768x64x320 : Shape := ⟨3, ![768, 64, 320]⟩
abbrev S768x64 : Shape := ⟨2, ![768, 64]⟩
abbrev S768 : Shape := ⟨1, ![768]⟩
abbrev S5120x320 : Shape := ⟨2, ![5120, 320]⟩
abbrev S5120 : Shape := ⟨1, ![5120]⟩
abbrev S4x1280 : Shape := ⟨2, ![4, 1280]⟩
abbrev S320x1280 : Shape := ⟨2, ![320, 1280]⟩
abbrev S320 : Shape := ⟨1, ![320]⟩
abbrev S_ : Shape := ⟨0, ![]⟩
abbrev S768x320 : Shape := ⟨2, ![768, 320]⟩
abbrev S768x1280 : Shape := ⟨2, ![768, 1280]⟩
abbrev S64x320x768 : Shape := ⟨3, ![64, 320, 768]⟩
abbrev S64x768 : Shape := ⟨2, ![64, 768]⟩
abbrev S320x5120 : Shape := ⟨2, ![320, 5120]⟩
abbrev S1280x320 : Shape := ⟨2, ![1280, 320]⟩
abbrev S320x768 : Shape := ⟨2, ![320, 768]⟩
abbrev S64x1x768 : Shape := ⟨3, ![64, 1, 768]⟩
abbrev S1x768 : Shape := ⟨2, ![1, 768]⟩
abbrev S768x1 : Shape := ⟨2, ![768, 1]⟩
abbrev S1x5120 : Shape := ⟨2, ![1, 5120]⟩
abbrev S1x320 : Shape := ⟨2, ![1, 320]⟩
abbrev S1x1 : Shape := ⟨2, ![1, 1]⟩
abbrev S64x4x80x768 : Shape := ⟨4, ![64, 4, 80, 768]⟩
abbrev S64x768x1280 : Shape := ⟨3, ![64, 768, 1280]⟩
abbrev S1x320x768 : Shape := ⟨3, ![1, 320, 768]⟩
abbrev S1x1x768 : Shape := ⟨3, ![1, 1, 768]⟩
abbrev S1x4x80x768 : Shape := ⟨4, ![1, 4, 80, 768]⟩
abbrev S1x768x1280 : Shape := ⟨3, ![1, 768, 1280]⟩
abbrev S1x256x320 : Shape := ⟨3, ![1, 256, 320]⟩
abbrev S2x256x5120 : Shape := ⟨3, ![2, 256, 5120]⟩
abbrev S1x256 : Shape := ⟨2, ![1, 256]⟩
abbrev S320x256 : Shape := ⟨2, ![320, 256]⟩
abbrev S256x320 : Shape := ⟨2, ![256, 320]⟩
abbrev S256x1 : Shape := ⟨2, ![256, 1]⟩
abbrev S256x1280 : Shape := ⟨2, ![256, 1280]⟩
abbrev S1x128 : Shape := ⟨2, ![1, 128]⟩
abbrev S1x320x256 : Shape := ⟨3, ![1, 320, 256]⟩
abbrev S1x1x256 : Shape := ⟨3, ![1, 1, 256]⟩
abbrev S256x256 : Shape := ⟨2, ![256, 256]⟩
abbrev S256x128 : Shape := ⟨2, ![256, 128]⟩
abbrev S128x256 : Shape := ⟨2, ![128, 256]⟩
abbrev S80x256 : Shape := ⟨2, ![80, 256]⟩
abbrev S1x1x80x256 : Shape := ⟨4, ![1, 1, 80, 256]⟩
abbrev S1x256x256 : Shape := ⟨3, ![1, 256, 256]⟩
abbrev S128x128 : Shape := ⟨2, ![128, 128]⟩
abbrev S8x128 : Shape := ⟨2, ![8, 128]⟩
abbrev S1x256x128 : Shape := ⟨3, ![1, 256, 128]⟩
abbrev S256 : Shape := ⟨1, ![256]⟩

abbrev nBuf : Space → Nat
  | .hbm => 40
  | .vmem => 36
  | .smem => 1
  | _ => 0

abbrev bufTy : (tb : Table) → Fin (tcTables nBuf tb) → BufTy
  | .hbm, ⟨0, _⟩ => ⟨S768x64x320, .i8⟩
  | .hbm, ⟨1, _⟩ => ⟨S768x64, .f32⟩
  | .hbm, ⟨2, _⟩ => ⟨S768, .i32⟩
  | .hbm, ⟨3, _⟩ => ⟨S768, .i32⟩
  | .hbm, ⟨4, _⟩ => ⟨S5120x320, .i8⟩
  | .hbm, ⟨5, _⟩ => ⟨S5120, .f32⟩
  | .hbm, ⟨6, _⟩ => ⟨S5120x320, .i8⟩
  | .hbm, ⟨7, _⟩ => ⟨S5120, .f32⟩
  | .hbm, ⟨8, _⟩ => ⟨S4x1280, .f32⟩
  | .hbm, ⟨9, _⟩ => ⟨S4x1280, .f32⟩
  | .hbm, ⟨10, _⟩ => ⟨S320x1280, .i8⟩
  | .hbm, ⟨11, _⟩ => ⟨S320, .f32⟩
  | .hbm, ⟨12, _⟩ => ⟨S_, .f32⟩
  | .hbm, ⟨13, _⟩ => ⟨S768x320, .i8⟩
  | .hbm, ⟨14, _⟩ => ⟨S768, .f32⟩
  | .hbm, ⟨15, _⟩ => ⟨S768x1280, .f32⟩
  | .hbm, ⟨16, _⟩ => ⟨S64x320x768, .i8⟩
  | .hbm, ⟨17, _⟩ => ⟨S64x768, .f32⟩
  | .hbm, ⟨18, _⟩ => ⟨S320x5120, .i8⟩
  | .hbm, ⟨19, _⟩ => ⟨S320x5120, .i8⟩
  | .hbm, ⟨20, _⟩ => ⟨S1280x320, .i8⟩
  | .hbm, ⟨21, _⟩ => ⟨S320x768, .i8⟩
  | .hbm, ⟨22, _⟩ => ⟨S64x1x768, .f32⟩
  | .hbm, ⟨23, _⟩ => ⟨S1x768, .i32⟩
  | .hbm, ⟨24, _⟩ => ⟨S1x768, .i32⟩
  | .hbm, ⟨25, _⟩ => ⟨S768x1, .i32⟩
  | .hbm, ⟨26, _⟩ => ⟨S768x1, .i32⟩
  | .hbm, ⟨27, _⟩ => ⟨S1x5120, .f32⟩
  | .hbm, ⟨28, _⟩ => ⟨S1x5120, .f32⟩
  | .hbm, ⟨29, _⟩ => ⟨S1x5120, .f32⟩
  | .hbm, ⟨30, _⟩ => ⟨S1x5120, .f32⟩
  | .hbm, ⟨31, _⟩ => ⟨S1x320, .f32⟩
  | .hbm, ⟨32, _⟩ => ⟨S1x1, .f32⟩
  | .hbm, ⟨33, _⟩ => ⟨S1x768, .f32⟩
  | .hbm, ⟨34, _⟩ => ⟨S64x320x768, .i8⟩
  | .hbm, ⟨35, _⟩ => ⟨S64x1x768, .f32⟩
  | .hbm, ⟨36, _⟩ => ⟨S64x320x768, .f32⟩
  | .hbm, ⟨37, _⟩ => ⟨S64x4x80x768, .f32⟩
  | .hbm, ⟨38, _⟩ => ⟨S64x768x1280, .i8⟩
  | .hbm, ⟨39, _⟩ => ⟨S64x768x1280, .f32⟩
  | .local _ .vmem, ⟨0, _⟩ => ⟨S1x320x768, .i8⟩
  | .local _ .vmem, ⟨1, _⟩ => ⟨S1x320x768, .i8⟩
  | .local _ .vmem, ⟨2, _⟩ => ⟨S1x1x768, .f32⟩
  | .local _ .vmem, ⟨3, _⟩ => ⟨S1x1x768, .f32⟩
  | .local _ .vmem, ⟨4, _⟩ => ⟨S1x768, .i32⟩
  | .local _ .vmem, ⟨5, _⟩ => ⟨S1x768, .i32⟩
  | .local _ .vmem, ⟨6, _⟩ => ⟨S768x1, .i32⟩
  | .local _ .vmem, ⟨7, _⟩ => ⟨S768x1, .i32⟩
  | .local _ .vmem, ⟨8, _⟩ => ⟨S320x5120, .i8⟩
  | .local _ .vmem, ⟨9, _⟩ => ⟨S1x5120, .f32⟩
  | .local _ .vmem, ⟨10, _⟩ => ⟨S320x5120, .i8⟩
  | .local _ .vmem, ⟨11, _⟩ => ⟨S1x5120, .f32⟩
  | .local _ .vmem, ⟨12, _⟩ => ⟨S1x5120, .f32⟩
  | .local _ .vmem, ⟨13, _⟩ => ⟨S1x5120, .f32⟩
  | .local _ .vmem, ⟨14, _⟩ => ⟨S1280x320, .i8⟩
  | .local _ .vmem, ⟨15, _⟩ => ⟨S1x320, .f32⟩
  | .local _ .vmem, ⟨16, _⟩ => ⟨S320x768, .i8⟩
  | .local _ .vmem, ⟨17, _⟩ => ⟨S1x768, .f32⟩
  | .local _ .vmem, ⟨18, _⟩ => ⟨S768x1280, .f32⟩
  | .local _ .vmem, ⟨19, _⟩ => ⟨S1x320x768, .i8⟩
  | .local _ .vmem, ⟨20, _⟩ => ⟨S1x320x768, .i8⟩
  | .local _ .vmem, ⟨21, _⟩ => ⟨S1x1x768, .f32⟩
  | .local _ .vmem, ⟨22, _⟩ => ⟨S1x1x768, .f32⟩
  | .local _ .vmem, ⟨23, _⟩ => ⟨S1x320x768, .f32⟩
  | .local _ .vmem, ⟨24, _⟩ => ⟨S1x320x768, .f32⟩
  | .local _ .vmem, ⟨25, _⟩ => ⟨S1x4x80x768, .f32⟩
  | .local _ .vmem, ⟨26, _⟩ => ⟨S1x4x80x768, .f32⟩
  | .local _ .vmem, ⟨27, _⟩ => ⟨S1x768x1280, .i8⟩
  | .local _ .vmem, ⟨28, _⟩ => ⟨S1x768x1280, .i8⟩
  | .local _ .vmem, ⟨29, _⟩ => ⟨S1x768x1280, .f32⟩
  | .local _ .vmem, ⟨30, _⟩ => ⟨S1x768x1280, .f32⟩
  | .local _ .vmem, ⟨31, _⟩ => ⟨S768x320, .bf16⟩
  | .local _ .vmem, ⟨32, _⟩ => ⟨S1x768, .f32⟩
  | .local _ .vmem, ⟨33, _⟩ => ⟨S768x1280, .f32⟩
  | .local _ .vmem, ⟨34, _⟩ => ⟨S1x256x320, .bf16⟩
  | .local _ .vmem, ⟨35, _⟩ => ⟨S2x256x5120, .f32⟩
  | .local _ .smem, ⟨0, _⟩ => ⟨S1x1, .f32⟩
  | _, _ => ⟨S768x64x320, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18_0 : Ref sig .tc := ⟨.hbm, 34, rfl⟩
abbrev main_v18_1 : Ref sig .tc := ⟨.hbm, 35, rfl⟩
abbrev main_v18_2 : Ref sig .tc := ⟨.hbm, 36, rfl⟩
abbrev main_v18_3 : Ref sig .tc := ⟨.hbm, 37, rfl⟩
abbrev main_v18_4 : Ref sig .tc := ⟨.hbm, 38, rfl⟩
abbrev main_v18_5 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg18_1 : Ref sig .tc := ⟨.vmem, 20, rfl⟩
abbrev cc0_stg19_0 : Ref sig .tc := ⟨.vmem, 21, rfl⟩
abbrev cc0_stg19_1 : Ref sig .tc := ⟨.vmem, 22, rfl⟩
abbrev cc0_stg20_0 : Ref sig .tc := ⟨.vmem, 23, rfl⟩
abbrev cc0_stg20_1 : Ref sig .tc := ⟨.vmem, 24, rfl⟩
abbrev cc0_stg21_0 : Ref sig .tc := ⟨.vmem, 25, rfl⟩
abbrev cc0_stg21_1 : Ref sig .tc := ⟨.vmem, 26, rfl⟩
abbrev cc0_stg22_0 : Ref sig .tc := ⟨.vmem, 27, rfl⟩
abbrev cc0_stg22_1 : Ref sig .tc := ⟨.vmem, 28, rfl⟩
abbrev cc0_stg23_0 : Ref sig .tc := ⟨.vmem, 29, rfl⟩
abbrev cc0_stg23_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_stg14_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem20_1 : DmaSem sig := 25
abbrev cc0_sem21_0 : DmaSem sig := 26
abbrev cc0_sem21_1 : DmaSem sig := 27
abbrev cc0_sem22_0 : DmaSem sig := 28
abbrev cc0_sem22_1 : DmaSem sig := 29
abbrev cc0_sem23_0 : DmaSem sig := 30
abbrev cc0_sem23_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x320x768 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S320x5120 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S320x5120 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x5120 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x5120 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x5120 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1280x320 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x320 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .smem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S320x768 .i8 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S768x1280 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1x320x768 .i8 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x768 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x320x768 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x4x80x768 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x768x1280 .i8 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x768x1280 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== KernelIdeal.lean ====
variable {F : FTy → Type} [FloatOps F] [Named F]
def κ : String → Option EReal := fun
  | "inv_cell" => some ((1 / 1280 : ℝ) : EReal)
  | _ => none
-- ==== ReferenceIdeal.lean ====
abbrev S768x64x320 : Shape := ⟨3, ![768, 64, 320]⟩
abbrev S768x64 : Shape := ⟨2, ![768, 64]⟩
abbrev S768 : Shape := ⟨1, ![768]⟩
abbrev S5120x320 : Shape := ⟨2, ![5120, 320]⟩
abbrev S5120 : Shape := ⟨1, ![5120]⟩
abbrev S4x1280 : Shape := ⟨2, ![4, 1280]⟩
abbrev S320x1280 : Shape := ⟨2, ![320, 1280]⟩
abbrev S320 : Shape := ⟨1, ![320]⟩
abbrev S_ : Shape := ⟨0, ![]⟩
abbrev S768x320 : Shape := ⟨2, ![768, 320]⟩
abbrev S768x1280 : Shape := ⟨2, ![768, 1280]⟩
abbrev S64x768x320 : Shape := ⟨3, ![64, 768, 320]⟩
abbrev S64x768 : Shape := ⟨2, ![64, 768]⟩
abbrev S64x768x1 : Shape := ⟨3, ![64, 768, 1]⟩
abbrev S768x1 : Shape := ⟨2, ![768, 1]⟩
abbrev S4x1280x320 : Shape := ⟨3, ![4, 1280, 320]⟩
abbrev S4x1x1280 : Shape := ⟨3, ![4, 1, 1280]⟩
abbrev S1x320 : Shape := ⟨2, ![1, 320]⟩
abbrev S1x1 : Shape := ⟨2, ![1, 1]⟩
abbrev S64x320x768 : Shape := ⟨3, ![64, 320, 768]⟩
abbrev S64x1x768 : Shape := ⟨3, ![64, 1, 768]⟩
abbrev S64x4x80x768 : Shape := ⟨4, ![64, 4, 80, 768]⟩
abbrev S64x768x1280 : Shape := ⟨3, ![64, 768, 1280]⟩
abbrev S1x768x320 : Shape := ⟨3, ![1, 768, 320]⟩
abbrev S1x1280x320 : Shape := ⟨3, ![1, 1280, 320]⟩
abbrev S1280x320 : Shape := ⟨2, ![1280, 320]⟩
abbrev S1x768x1 : Shape := ⟨3, ![1, 768, 1]⟩
abbrev S1x1x1280 : Shape := ⟨3, ![1, 1, 1280]⟩
abbrev S1x1280 : Shape := ⟨2, ![1, 1280]⟩
abbrev S768x80 : Shape := ⟨2, ![768, 80]⟩
abbrev S80x768 : Shape := ⟨2, ![80, 768]⟩
abbrev S1x1x80x768 : Shape := ⟨4, ![1, 1, 80, 768]⟩
abbrev S320x768 : Shape := ⟨2, ![320, 768]⟩
abbrev S1x320x768 : Shape := ⟨3, ![1, 320, 768]⟩
abbrev S1x768 : Shape := ⟨2, ![1, 768]⟩
abbrev S1x1x768 : Shape := ⟨3, ![1, 1, 768]⟩
abbrev S1x768x1280 : Shape := ⟨3, ![1, 768, 1280]⟩

abbrev nBuf : Space → Nat
  | .hbm => 36
  | .vmem => 22
  | .smem => 0
  | _ => 0

abbrev bufTy : (tb : Table) → Fin (tcTables nBuf tb) → BufTy
  | .hbm, ⟨0, _⟩ => ⟨S768x64x320, .i8⟩
  | .hbm, ⟨1, _⟩ => ⟨S768x64, .f32⟩
  | .hbm, ⟨2, _⟩ => ⟨S768, .i32⟩
  | .hbm, ⟨3, _⟩ => ⟨S768, .i32⟩
  | .hbm, ⟨4, _⟩ => ⟨S5120x320, .i8⟩
  | .hbm, ⟨5, _⟩ => ⟨S5120, .f32⟩
  | .hbm, ⟨6, _⟩ => ⟨S5120x320, .i8⟩
  | .hbm, ⟨7, _⟩ => ⟨S5120, .f32⟩
  | .hbm, ⟨8, _⟩ => ⟨S4x1280, .f32⟩
  | .hbm, ⟨9, _⟩ => ⟨S4x1280, .f32⟩
  | .hbm, ⟨10, _⟩ => ⟨S320x1280, .i8⟩
  | .hbm, ⟨11, _⟩ => ⟨S320, .f32⟩
  | .hbm, ⟨12, _⟩ => ⟨S_, .f32⟩
  | .hbm, ⟨13, _⟩ => ⟨S768x320, .i8⟩
  | .hbm, ⟨14, _⟩ => ⟨S768, .f32⟩
  | .hbm, ⟨15, _⟩ => ⟨S768x1280, .f32⟩
  | .hbm, ⟨16, _⟩ => ⟨S64x768x320, .i8⟩
  | .hbm, ⟨17, _⟩ => ⟨S64x768, .f32⟩
  | .hbm, ⟨18, _⟩ => ⟨S64x768x1, .f32⟩
  | .hbm, ⟨19, _⟩ => ⟨S768x1, .i32⟩
  | .hbm, ⟨20, _⟩ => ⟨S768x1, .i32⟩
  | .hbm, ⟨21, _⟩ => ⟨S4x1280x320, .i8⟩
  | .hbm, ⟨22, _⟩ => ⟨S4x1x1280, .f32⟩
  | .hbm, ⟨23, _⟩ => ⟨S4x1280x320, .i8⟩
  | .hbm, ⟨24, _⟩ => ⟨S4x1x1280, .f32⟩
  | .hbm, ⟨25, _⟩ => ⟨S4x1x1280, .f32⟩
  | .hbm, ⟨26, _⟩ => ⟨S4x1x1280, .f32⟩
  | .hbm, ⟨27, _⟩ => ⟨S1x320, .f32⟩
  | .hbm, ⟨28, _⟩ => ⟨S1x1, .f32⟩
  | .hbm, ⟨29, _⟩ => ⟨S768x1, .f32⟩
  | .hbm, ⟨30, _⟩ => ⟨S64x320x768, .i8⟩
  | .hbm, ⟨31, _⟩ => ⟨S64x1x768, .f32⟩
  | .hbm, ⟨32, _⟩ => ⟨S64x320x768, .f32⟩
  | .hbm, ⟨33, _⟩ => ⟨S64x4x80x768, .f32⟩
  | .hbm, ⟨34, _⟩ => ⟨S64x768x1280, .i8⟩
  | .hbm, ⟨35, _⟩ => ⟨S64x768x1280, .f32⟩
  | .local _ .vmem, ⟨0, _⟩ => ⟨S64x768x320, .i8⟩
  | .local _ .vmem, ⟨1, _⟩ => ⟨S64x768x1, .f32⟩
  | .local _ .vmem, ⟨2, _⟩ => ⟨S768x1, .i32⟩
  | .local _ .vmem, ⟨3, _⟩ => ⟨S768x1, .i32⟩
  | .local _ .vmem, ⟨4, _⟩ => ⟨S4x1280x320, .i8⟩
  | .local _ .vmem, ⟨5, _⟩ => ⟨S4x1x1280, .f32⟩
  | .local _ .vmem, ⟨6, _⟩ => ⟨S4x1280x320, .i8⟩
  | .local _ .vmem, ⟨7, _⟩ => ⟨S4x1x1280, .f32⟩
  | .local _ .vmem, ⟨8, _⟩ => ⟨S4x1x1280, .f32⟩
  | .local _ .vmem, ⟨9, _⟩ => ⟨S4x1x1280, .f32⟩
  | .local _ .vmem, ⟨10, _⟩ => ⟨S320x1280, .i8⟩
  | .local _ .vmem, ⟨11, _⟩ => ⟨S1x320, .f32⟩
  | .local _ .vmem, ⟨12, _⟩ => ⟨S1x1, .f32⟩
  | .local _ .vmem, ⟨13, _⟩ => ⟨S768x320, .i8⟩
  | .local _ .vmem, ⟨14, _⟩ => ⟨S768x1, .f32⟩
  | .local _ .vmem, ⟨15, _⟩ => ⟨S768x1280, .f32⟩
  | .local _ .vmem, ⟨16, _⟩ => ⟨S64x320x768, .i8⟩
  | .local _ .vmem, ⟨17, _⟩ => ⟨S64x1x768, .f32⟩
  | .local _ .vmem, ⟨18, _⟩ => ⟨S64x320x768, .f32⟩
  | .local _ .vmem, ⟨19, _⟩ => ⟨S64x4x80x768, .f32⟩
  | .local _ .vmem, ⟨20, _⟩ => ⟨S64x768x1280, .i8⟩
  | .local _ .vmem, ⟨21, _⟩ => ⟨S64x768x1280, .f32⟩
  | _, _ => ⟨S768x64x320, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14_0 : Ref sig .tc := ⟨.hbm, 30, rfl⟩
abbrev main_v14_1 : Ref sig .tc := ⟨.hbm, 31, rfl⟩
abbrev main_v14_2 : Ref sig .tc := ⟨.hbm, 32, rfl⟩
abbrev main_v14_3 : Ref sig .tc := ⟨.hbm, 33, rfl⟩
abbrev main_v14_4 : Ref sig .tc := ⟨.hbm, 34, rfl⟩
abbrev main_v14_5 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c64_i32 : BitVec 32 := 64#32
  let v20 : BitVec 32 := Scalar.addi c0_i32 c64_i32
  let c1_i32_10 : BitVec 32 := 1#32
  ⟨c0_i32, v20, c1_i32_10⟩
def k0_off1 (k0_t1 : Fin k0_t1_loop.trips) : Fin 3 → Nat :=
  let c0_i32 : BitVec 32 := 0#32
  let c1_i32_10 : BitVec 32 := 1#32
  let arg22 : BitVec 32 := Scf.iv c0_i32 c1_i32_10 k0_t1
  let v26 : Index := Scalar.indexCast arg22
  let c0_14 : Index := 0#32
  let c0_15 : Index := 0#32
  ![v26.toNat, 0, 0]
def k0_off2 (k0_t1 : Fin k0_t1_loop.trips) : Fin 3 → Nat :=
  let c0_i32 : BitVec 32 := 0#32
  let c1_i32_10 : BitVec 32 := 1#32
  let arg22 : BitVec 32 := Scf.iv c0_i32 c1_i32_10 k0_t1
  let v34 : Index := Scalar.indexCast arg22
  let c0_20 : Index := 0#32
  let c0_21 : Index := 0#32
  ![v34.toNat, 0, 0]
def k0_off3 (k0_t1 : Fin k0_t1_loop.trips) : Fin 4 → Nat :=
  let c0_i32 : BitVec 32 := 0#32
  let c1_i32_10 : BitVec 32 := 1#32
  let arg22 : BitVec 32 := Scf.iv c0_i32 c1_i32_10 k0_t1
  let v85 : Index := Scalar.indexCast arg22
  let c0_44 : Index := 0#32
  let c0_45 : Index := 0#32
  let c0_46 : Index := 0#32
  ![v85.toNat, 0, 0, 0]
def k0_off4 (k0_t1 : Fin k0_t1_loop.trips) : Fin 4 → Nat :=
  let c0_i32 : BitVec 32 := 0#32
  let c1_i32_10 : BitVec 32 := 1#32
  let arg22 : BitVec 32 := Scf.iv c0_i32 c1_i32_10 k0_t1
  let v145 : Index := Scalar.indexCast arg22
  let c1_74 : Index := 1#32
  let c0_75 : Index := 0#32
  let c0_76 : Index := 0#32
  ![v145.toNat, 1, 0, 0]
def k0_off5 (k0_t1 : Fin k0_t1_loop.trips) : Fin 4 → Nat :=
  let c0_i32 : BitVec 32 := 0#32
  let c1_i32_10 : BitVec 32 := 1#32
  let arg22 : BitVec 32 := Scf.iv c0_i32 c1_i32_10 k0_t1
  let v205 : Index := Scalar.indexCast arg22
  let c2_104 : Index := 2#32
  let c0_105 : Index := 0#32
  let c0_106 : Index := 0#32
  ![v205.toNat, 2, 0, 0]
def k0_off6 (k0_t1 : Fin k0_t1_loop.trips) : Fin 4 → Nat :=
  let c0_i32 : BitVec 32 := 0#32
  let c1_i32_10 : BitVec 32 := 1#32
  let arg22 : BitVec 32 := Scf.iv c0_i32 c1_i32_10 k0_t1
  let v265 : Index := Scalar.indexCast arg22
  let c3_134 : Index := 3#32
  let c0_135 : Index := 0#32
  let c0_136 : Index := 0#32
  ![v265.toNat, 3, 0, 0]
def k0_off7 (k0_t1 : Fin k0_t1_loop.trips) : Fin 3 → Nat :=
  let c0_i32 : BitVec 32 := 0#32
  let c1_i32_10 : BitVec 32 := 1#32
  let arg22 : BitVec 32 := Scf.iv c0_i32 c1_i32_10 k0_t1
  let v325 : Index := Scalar.indexCast arg22
  let c0_152 : Index := 0#32
  let c0_153 : Index := 0#32
  ![v325.toNat, 0, 0]
def k0_off8 (k0_t1 : Fin k0_t1_loop.trips) : Fin 3 → Nat :=
  let c0_i32 : BitVec 32 := 0#32
  let c1_i32_10 : BitVec 32 := 1#32
  let arg22 : BitVec 32 := Scf.iv c0_i32 c1_i32_10 k0_t1
  let v330 : Index := Scalar.indexCast arg22
  let c0_154 : Index := 0#32
  let c0_155 : Index := 0#32
  ![v330.toNat, 0, 0]
def k0_off9 (k0_t1 : Fin k0_t1_loop.trips) : Fin 3 → Nat :=
  let c0_i32 : BitVec 32 := 0#32
  let c1_i32_10 : BitVec 32 := 1#32
  let arg22 : BitVec 32 := Scf.iv c0_i32 c1_i32_10 k0_t1
  let v347 : Index := Scalar.indexCast arg22
  let c0_159 : Index := 0#32
  let c0_160 : Index := 0#32
  ![v347.toNat, 0, 0]
abbrev stage0_0 : Fin 1 → Memref sig .tc .vmem S64x768x320 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x768x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1280x320 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1280x320 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x1x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x1x1280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x1x1280 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S320x1280 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x320 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S768x320 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S768x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S768x1280 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S64x320x768 .i8 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S64x1x768 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S64x320x768 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S64x4x80x768 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S64x768x1280 .i8 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S64x768x1280 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== Proof.Spec.lean ====
/-
  One row of the layer: the quantised LSTM with projection, one step, as the reference states it.
-/
module

public import proofs.«01_k».proof.Defs
public import Idealize.ShloMosaic.Lib.Pointwise

@[expose] public section

noncomputable section

namespace Cert.Proof.Spec

open Idealize.ShloMosaic

/-- The layer's parameters. -/
structure Wts where
  wx : Fin 4 → Fin 1280 → Fin 320 → EReal
  wh : Fin 4 → Fin 1280 → Fin 320 → EReal
  wxs : Fin 4 → Fin 1280 → EReal
  whs : Fin 4 → Fin 1280 → EReal
  gain : Fin 4 → Fin 1280 → EReal
  bias : Fin 4 → Fin 1280 → EReal
  wp : Fin 320 → Fin 1280 → EReal
  wps : Fin 320 → EReal
  ms : EReal

/-- What a row carries: its codes, their scale, its cells. -/
@[ext] structure St where
  h : Fin 320 → EReal
  s : EReal
  c : Fin 1280 → EReal

/-- The constants, by their patterns. -/
abbrev c1280 : EReal := Ideal.ofBits .f32 0x44A00000#32
abbrev cEps : EReal := Ideal.ofBits .f32 0x3727C5AC#32
abbrev cHi : EReal := Ideal.ofBits .f32 0x3FC00000#32
abbrev cLo : EReal := Ideal.ofBits .f32 0xBFC00000#32
abbrev c127 : EReal := Ideal.ofBits .f32 0x42FE0000#32
abbrev cm127 : EReal := Ideal.ofBits .f32 0xC2FE0000#32
abbrev cBot : EReal := Ideal.ofBits .f32 0xFF800000#32

variable (W : Wts) (x : Fin 320 → EReal) (xs : EReal) (st : St)

/-- The recurrent sums. -/
def gh (g : Fin 4) (n : Fin 1280) : EReal := (∑ k, st.h k * W.wh g n k) * st.s * W.whs g n
/-- The gate's sums. -/
def z (g : Fin 4) (n : Fin 1280) : EReal := (∑ k, x k * W.wx g n k) * xs * W.wxs g n + gh W st g n
/-- A row less its mean. -/
def cent (v : Fin 1280 → EReal) (n : Fin 1280) : EReal := v n - Ideal.div (∑ k, v k) c1280
/-- The reciprocal root of a centred row's variance. -/
def rstd (d : Fin 1280 → EReal) : EReal := Ideal.rsqrt (Ideal.div (∑ k, d k * d k) c1280 + cEps)
/-- The normalised gate. -/
def zn (g : Fin 4) (n : Fin 1280) : EReal :=
  cent (z W x xs st g) n * rstd (cent (z W x xs st g)) * W.gain g n + W.bias g n
/-- A value clipped. -/
def clip (lo hi v : EReal) : EReal := min hi (max lo v)
/-- The integer code of a quotient. -/
def code (v s : EReal) : EReal := clip cm127 c127 (Ideal.liftRound Ideal.roundHalfEven (Ideal.div v s))
/-- The new cells, before the mask. -/
def cNew (n : Fin 1280) : EReal :=
  clip cLo cHi (Ideal.logistic (zn W x xs st 1 n) * st.c n + Ideal.logistic (zn W x xs st 0 n) * Ideal.tanh (zn W x xs st 2 n))
/-- The cell codes. -/
def m (n : Fin 1280) : EReal := code (Ideal.logistic (zn W x xs st 3 n) * Ideal.tanh (cNew W x xs st n)) W.ms
/-- The projection of cell codes. -/
def hfOf (mv : Fin 1280 → EReal) (r : Fin 320) : EReal := (∑ n, mv n * W.wp r n) * W.ms * W.wps r
/-- The projection. -/
def hf (r : Fin 320) : EReal := hfOf W (m W x xs st) r
/-- The scale of a row's codes. -/
def scaleOf (v : Fin 320 → EReal) : EReal :=
  if Finset.univ.fold max cBot (fun r => FloatOps.absf (F := Ideal) (φ := .f32) (v r)) = 0 then 1
  else Ideal.div (Finset.univ.fold max cBot (fun r => FloatOps.absf (F := Ideal) (φ := .f32) (v r))) c127
/-- The new codes, before the mask. -/
def hNew (r : Fin 320) : EReal := code (hf W x xs st r) (scaleOf (hf W x xs st))

/-- One step: a row past its end keeps what it carries. -/
def step (live : BitVec 1) : St where
  h r := Scalar.select live (hNew W x xs st r) (st.h r)
  s := Scalar.select live (scaleOf (hf W x xs st)) st.s
  c n := Scalar.select live (cNew W x xs st n) (st.c n)

end Cert.Proof.Spec
end
-- ==== Proof.Problem.lean ====
/-
  The layer over its frames, row by row.
-/
module

public import proofs.«01_k».proof.Proof.Spec

@[expose] public section

noncomputable section

namespace Cert.Proof.Spec

open Idealize.ShloMosaic

/-- The layer's inputs, entry by entry. -/
@[ext] structure Args where
  x : Fin 768 → Fin 64 → Fin 320 → BitVec 8
  xs : Fin 768 → Fin 64 → EReal
  n : Fin 768 → BitVec 32
  reset : Fin 768 → BitVec 32
  wx : Fin 5120 → Fin 320 → BitVec 8
  wxs : Fin 5120 → EReal
  wh : Fin 5120 → Fin 320 → BitVec 8
  whs : Fin 5120 → EReal
  gain : Fin 4 → Fin 1280 → EReal
  bias : Fin 4 → Fin 1280 → EReal
  wp : Fin 320 → Fin 1280 → BitVec 8
  wps : Fin 320 → EReal
  ms : EReal
  h0 : Fin 768 → Fin 320 → BitVec 8
  h0s : Fin 768 → EReal
  c0 : Fin 768 → Fin 1280 → EReal

/-- An integer as a real number. -/
abbrev num (v : BitVec 8) : EReal := FloatOps.sitofp (F := Ideal) FTy.bf16 v

/-- The gates' rows of the weights are stacked. -/
abbrev stacked (g : Fin 4) (n : Fin 1280) : Fin 5120 := ⟨1280 * g.val + n.val, by omega⟩

/-- A reset row starts from zeros. -/
abbrev fresh (r : BitVec 32) : BitVec 1 := IntOp.cmpi CmpIPredicate.eq r 1#32

/-- A row is live while the step is below its count. -/
abbrev alive (cnt t : BitVec 32) : BitVec 1 := IntOp.cmpi CmpIPredicate.sgt cnt t

namespace Args
variable (A : Args)

def W : Wts where
  wx g n k := num (A.wx (stacked g n) k)
  wh g n k := num (A.wh (stacked g n) k)
  wxs g n := A.wxs (stacked g n)
  whs g n := A.whs (stacked g n)
  gain := A.gain
  bias := A.bias
  wp r n := num (A.wp r n)
  wps := A.wps
  ms := A.ms

/-- What a row starts from. -/
def start (b : Fin 768) : St where
  h r := Scalar.select (fresh (A.reset b)) 0 (num (A.h0 b r))
  s := A.h0s b
  c n := Scalar.select (fresh (A.reset b)) 0 (A.c0 b n)

/-- The frame a step reads. -/
abbrev frame (b : Fin 768) (t : Nat) (k : Fin 320) : EReal := num (A.x b (Fin.ofNat 64 t) k)
abbrev frameS (b : Fin 768) (t : Nat) : EReal := A.xs b (Fin.ofNat 64 t)
/-- Whether the row is live at a step. -/
abbrev on (b : Fin 768) (t : Nat) : BitVec 1 := alive (A.n b) (BitVec.ofNat 32 t)

/-- What a row carries into step `t`. -/
def state (b : Fin 768) : Nat → St
  | 0 => A.start b
  | t + 1 => step A.W (A.frame b t) (A.frameS b t) (state b t) (A.on b t)

/-- The results at one step. -/
def outH (t : Nat) (r : Fin 320) (b : Fin 768) : BitVec 8 := FloatOps.fptosi (F := Ideal) (φ := .bf16) 8 ((A.state b (t + 1)).h r)
def outS (t : Nat) (b : Fin 768) : EReal := (A.state b (t + 1)).s
def outHf (t : Nat) (r : Fin 320) (b : Fin 768) : EReal :=
  Scalar.select (A.on b t) (hf A.W (A.frame b t) (A.frameS b t) (A.state b t) r) 0
def outGh (t : Nat) (g : Fin 4) (p : Fin 80) (b : Fin 768) : EReal :=
  Scalar.select (A.on b t) (gh A.W (A.state b t) g ⟨p.val, by omega⟩) 0
def outM (t : Nat) (b : Fin 768) (n : Fin 1280) : BitVec 8 := FloatOps.fptosi (F := Ideal) (φ := .f32) 8
  (Scalar.select (A.on b t) (m A.W (A.frame b t) (A.frameS b t) (A.state b t) n) 0)
def outC (t : Nat) (b : Fin 768) (n : Fin 1280) : EReal := (A.state b (t + 1)).c n

end Args

end Cert.Proof.Spec
end
-- ==== Proof.Blocks.lean ====
/-
  The blocks the kernel's windows read are entries of the layer's inputs.
-/
module

public import proofs.«01_k».proof.Proof.Gen.KernelIdeal.Value
public import proofs.«01_k».proof.Proof.Problem
public import Idealize.ShloMosaic.Lib.Pointwise

@[expose] public section

set_option maxRecDepth 16384

noncomputable section

namespace Cert.Proof.Model

open Cert.KernelIdeal Cert.KernelIdeal.Gen Idealize.ShloMosaic Idealize.ShloMosaic.TcCoe Idealize.SL.Sem Idealize.ShloMosaic.Tactic

variable (m : (ℓ : Loc nD τ sig) → Buf (Elt Ideal) ℓ) (c : Dev nD)

/-- The kernel's inputs. -/
def kArgs : Spec.Args where
  x b t k := m ((c : Thread nD τ).loc main_arg0) (ix3 b t k)
  xs b t := m ((c : Thread nD τ).loc main_arg1) (ix2 b t)
  n b := m ((c : Thread nD τ).loc main_arg2) (ix1 b)
  reset b := m ((c : Thread nD τ).loc main_arg3) (ix1 b)
  wx n k := m ((c : Thread nD τ).loc main_arg4) (ix2 n k)
  wxs n := m ((c : Thread nD τ).loc main_arg5) (ix1 n)
  wh n k := m ((c : Thread nD τ).loc main_arg6) (ix2 n k)
  whs n := m ((c : Thread nD τ).loc main_arg7) (ix1 n)
  gain g n := m ((c : Thread nD τ).loc main_arg8) (ix2 g n)
  bias g n := m ((c : Thread nD τ).loc main_arg9) (ix2 g n)
  wp r n := m ((c : Thread nD τ).loc main_arg10) (ix2 r n)
  wps r := m ((c : Thread nD τ).loc main_arg11) (ix1 r)
  ms := m ((c : Thread nD τ).loc main_arg12) ix0
  h0 b r := m ((c : Thread nD τ).loc main_arg13) (ix2 b r)
  h0s b := m ((c : Thread nD τ).loc main_arg14) (ix1 b)
  c0 b n := m ((c : Thread nD τ).loc main_arg15) (ix2 b n)

/-- A block that is a whole array of rank two: its entries' places are its indices. -/
theorem whole2 {n0 n1 : Nat} (e : (⟨2, ![n0, n1]⟩ : Shape).Idx) (i : Fin n0) (j : Fin n1) (h0 : (e 0).val = 0 * n0 + 1 * i.val)
    (h1 : (e 1).val = 0 * n1 + 1 * j.val) : e = ix2 i j := by
  funext a; apply Fin.ext
  match a with
  | ⟨0, _⟩ => exact h0.trans (by show 0 * n0 + 1 * i.val = i.val; omega)
  | ⟨1, _⟩ => exact h1.trans (by show 0 * n1 + 1 * j.val = j.val; omega)

/-- A vector as a row. -/
theorem row_at (v : FVec Ideal S5120 .f32) (n : Fin 5120) :
    shapeCast S1x5120 v shapeCasts_S5120_S1x5120 (ix2 0 n) = v (ix1 n) := by
  refine shapeCast_apply _ _ _ _ ?_
  rw [rowMajor_val1, rowMajor_val2 _ 5120 rfl]
  show n.val = 0 * 5120 + n.val
  omega

theorem point0 : ∀ t : Fin cfg0.N, win0_0.index t (0 : Fin 3) = t.val := (by decide +kernel : ∀ t : Fin grid0.N, _)
theorem point1 : ∀ t : Fin cfg0.N, win0_1.index t (0 : Fin 3) = t.val := (by decide +kernel : ∀ t : Fin grid0.N, _)

theorem blk0 (t : Fin cfg0.N) (k : Fin 320) (b : Fin 768) :
    (iblk m c 0 t : Vec Ideal S1x320x768 .i8) (ix3 0 k b) = (kArgs m c).x b (Fin.ofNat 64 t.val) k := by
  have hN := lt_of_lt_of_eq t.isLt (show cfg0.N = 64 from N_0)
  show V m c main_v0 (((cfg0.win 0).blk t).view.emb (ix3 0 k b)) = _
  have e : ((cfg0.win 0).blk t).view.emb (ix3 0 k b) = (ix3 (Fin.ofNat 64 t.val) k b : S64x320x768.Idx) := by
    funext a; apply Fin.ext
    match a with
    | ⟨0, _⟩ => show win0_0.index t (0 : Fin 3) * 1 + 1 * 0 = t.val % 64; rw [point0]; omega
    | ⟨1, _⟩ => show 0 * 320 + 1 * k.val = k.val; omega
    | ⟨2, _⟩ => show 0 * 768 + 1 * b.val = b.val; omega
  have h : V m c main_v0 = transpose S64x320x768 [1, 2, 0] (m ((c : Thread nD τ).loc main_arg0)) transposes_S768x64x320_S64x320x768_1_2_0 := by
    sl_kernel_rfl
  rw [e, h]
  pointwise
  rfl

theorem blk1 (t : Fin cfg0.N) (b : Fin 768) :
    (iblk m c 1 t : Vec Ideal S1x1x768 .f32) (ix3 0 0 b) = (kArgs m c).xs b (Fin.ofNat 64 t.val) := by
  have hN := lt_of_lt_of_eq t.isLt (show cfg0.N = 64 from N_0)
  show V m c main_v6 (((cfg0.win 1).blk t).view.emb (ix3 0 0 b)) = _
  have e : ((cfg0.win 1).blk t).view.emb (ix3 0 0 b) = (ix3 (Fin.ofNat 64 t.val) 0 b : S64x1x768.Idx) := by
    funext a; apply Fin.ext
    match a with
    | ⟨0, _⟩ => show win0_1.index t (0 : Fin 3) * 1 + 1 * 0 = t.val % 64; rw [point1]; omega
    | ⟨1, _⟩ => show 0 * 1 + 1 * 0 = 0; omega
    | ⟨2, _⟩ => show 0 * 768 + 1 * b.val = b.val; omega
  have h : V m c main_v6 = shapeCast S64x1x768 (transpose S64x768 [1, 0] (m ((c : Thread nD τ).loc main_arg1))
      transposes_S768x64_S64x768_1_0) shapeCasts_S64x768_S64x1x768 := by sl_kernel_rfl
  rw [e, h]
  pointwise
  rfl

theorem blk2 (t : Fin cfg0.N) (b : Fin 768) : (iblk m c 2 t : Vec Ideal S1x768 .i32) (ix2 0 b) = (kArgs m c).n b := by
  have h : V m c main_v7 = shapeCast S1x768 (m ((c : Thread nD τ).loc main_arg2)) shapeCasts_S768_S1x768 := by sl_kernel_rfl
  show V m c main_v7 (((cfg0.win 2).blk t).view.emb (ix2 0 b)) = _
  rw [whole2 (((cfg0.win 2).blk t).view.emb (ix2 0 b)) 0 b rfl rfl, h]
  pointwise
  rfl

theorem blk3 (t : Fin cfg0.N) (b : Fin 768) : (iblk m c 3 t : Vec Ideal S1x768 .i32) (ix2 0 b) = (kArgs m c).reset b := by
  have h : V m c main_v8 = shapeCast S1x768 (m ((c : Thread nD τ).loc main_arg3)) shapeCasts_S768_S1x768 := by sl_kernel_rfl
  show V m c main_v8 (((cfg0.win 3).blk t).view.emb (ix2 0 b)) = _
  rw [whole2 (((cfg0.win 3).blk t).view.emb (ix2 0 b)) 0 b rfl rfl, h]
  pointwise
  rfl

theorem blk4 (t : Fin cfg0.N) (b : Fin 768) : (iblk m c 4 t : Vec Ideal S768x1 .i32) (ix2 b 0) = (kArgs m c).reset b := by
  have h : V m c main_v9 = shapeCast S768x1 (m ((c : Thread nD τ).loc main_arg3)) shapeCasts_S768_S768x1 := by sl_kernel_rfl
  show V m c main_v9 (((cfg0.win 4).blk t).view.emb (ix2 b 0)) = _
  rw [whole2 (((cfg0.win 4).blk t).view.emb (ix2 b 0)) b 0 rfl rfl, h]
  pointwise
  rfl

theorem blk5 (t : Fin cfg0.N) (b : Fin 768) : (iblk m c 5 t : Vec Ideal S768x1 .i32) (ix2 b 0) = (kArgs m c).n b := by
  have h : V m c main_v10 = shapeCast S768x1 (m ((c : Thread nD τ).loc main_arg2)) shapeCasts_S768_S768x1 := by sl_kernel_rfl
  show V m c main_v10 (((cfg0.win 5).blk t).view.emb (ix2 b 0)) = _
  rw [whole2 (((cfg0.win 5).blk t).view.emb (ix2 b 0)) b 0 rfl rfl, h]
  pointwise
  rfl

theorem blk6 (t : Fin cfg0.N) (k : Fin 320) (n : Fin 5120) :
    (iblk m c 6 t : Vec Ideal S320x5120 .i8) (ix2 k n) = (kArgs m c).wx n k := by
  have h : V m c main_v2 = transpose S320x5120 [1, 0] (m ((c : Thread nD τ).loc main_arg4)) transposes_S5120x320_S320x5120_1_0 := by
    sl_kernel_rfl
  show V m c main_v2 (((cfg0.win 6).blk t).view.emb (ix2 k n)) = _
  rw [whole2 (((cfg0.win 6).blk t).view.emb (ix2 k n)) k n rfl rfl, h]
  pointwise
  rfl

theorem blk7 (t : Fin cfg0.N) (n : Fin 5120) : (iblk m c 7 t : Vec Ideal S1x5120 .f32) (ix2 0 n) = (kArgs m c).wxs n := by
  have h : V m c main_v11 = shapeCast S1x5120 (m ((c : Thread nD τ).loc main_arg5)) shapeCasts_S5120_S1x5120 := by sl_kernel_rfl
  show V m c main_v11 (((cfg0.win 7).blk t).view.emb (ix2 0 n)) = _
  rw [whole2 (((cfg0.win 7).blk t).view.emb (ix2 0 n)) 0 n rfl rfl, h]
  exact row_at _ n

theorem blk8 (t : Fin cfg0.N) (k : Fin 320) (n : Fin 5120) :
    (iblk m c 8 t : Vec Ideal S320x5120 .i8) (ix2 k n) = (kArgs m c).wh n k := by
  have h : V m c main_v3 = transpose S320x5120 [1, 0] (m ((c : Thread nD τ).loc main_arg6)) transposes_S5120x320_S320x5120_1_0 := by
    sl_kernel_rfl
  show V m c main_v3 (((cfg0.win 8).blk t).view.emb (ix2 k n)) = _
  rw [whole2 (((cfg0.win 8).blk t).view.emb (ix2 k n)) k n rfl rfl, h]
  pointwise
  rfl

theorem blk9 (t : Fin cfg0.N) (n : Fin 5120) : (iblk m c 9 t : Vec Ideal S1x5120 .f32) (ix2 0 n) = (kArgs m c).whs n := by
  have h : V m c main_v12 = shapeCast S1x5120 (m ((c : Thread nD τ).loc main_arg7)) shapeCasts_S5120_S1x5120 := by sl_kernel_rfl
  show V m c main_v12 (((cfg0.win 9).blk t).view.emb (ix2 0 n)) = _
  rw [whole2 (((cfg0.win 9).blk t).view.emb (ix2 0 n)) 0 n rfl rfl, h]
  exact row_at _ n

/-- Stacking the gates' rows keeps their order. -/
theorem stack_at (v : FVec Ideal S4x1280 .f32) (g : Fin 4) (n : Fin 1280) :
    shapeCast S1x5120 v shapeCasts_S4x1280_S1x5120 (ix2 0 (Spec.stacked g n)) = v (ix2 g n) := by
  refine shapeCast_apply _ _ _ _ ?_
  rw [rowMajor_val2 _ 1280 rfl, rowMajor_val2 _ 5120 rfl]
  show g.val * 1280 + n.val = 0 * 5120 + (1280 * g.val + n.val)
  omega

theorem blk10 (t : Fin cfg0.N) (g : Fin 4) (n : Fin 1280) :
    (iblk m c 10 t : Vec Ideal S1x5120 .f32) (ix2 0 (Spec.stacked g n)) = (kArgs m c).gain g n := by
  have h : V m c main_v13 = shapeCast S1x5120 (m ((c : Thread nD τ).loc main_arg8)) shapeCasts_S4x1280_S1x5120 := by sl_kernel_rfl
  show V m c main_v13 (((cfg0.win 10).blk t).view.emb (ix2 0 (Spec.stacked g n))) = _
  rw [whole2 (((cfg0.win 10).blk t).view.emb (ix2 0 (Spec.stacked g n))) 0 (Spec.stacked g n) rfl rfl, h]
  exact stack_at _ g n

theorem blk11 (t : Fin cfg0.N) (g : Fin 4) (n : Fin 1280) :
    (iblk m c 11 t : Vec Ideal S1x5120 .f32) (ix2 0 (Spec.stacked g n)) = (kArgs m c).bias g n := by
  have h : V m c main_v14 = shapeCast S1x5120 (m ((c : Thread nD τ).loc main_arg9)) shapeCasts_S4x1280_S1x5120 := by sl_kernel_rfl
  show V m c main_v14 (((cfg0.win 11).blk t).view.emb (ix2 0 (Spec.stacked g n))) = _
  rw [whole2 (((cfg0.win 11).blk t).view.emb (ix2 0 (Spec.stacked g n))) 0 (Spec.stacked g n) rfl rfl, h]
  exact stack_at _ g n

theorem blk12 (t : Fin cfg0.N) (n : Fin 1280) (r : Fin 320) :
    (iblk m c 12 t : Vec Ideal S1280x320 .i8) (ix2 n r) = (kArgs m c).wp r n := by
  have h : V m c main_v4 = transpose S1280x320 [1, 0] (m ((c : Thread nD τ).loc main_arg10)) transposes_S320x1280_S1280x320_1_0 := by
    sl_kernel_rfl
  show V m c main_v4 (((cfg0.win 12).blk t).view.emb (ix2 n r)) = _
  rw [whole2 (((cfg0.win 12).blk t).view.emb (ix2 n r)) n r rfl rfl, h]
  pointwise
  rfl

theorem blk13 (t : Fin cfg0.N) (r : Fin 320) : (iblk m c 13 t : Vec Ideal S1x320 .f32) (ix2 0 r) = (kArgs m c).wps r := by
  have h : V m c main_v15 = shapeCast S1x320 (m ((c : Thread nD τ).loc main_arg11)) shapeCasts_S320_S1x320 := by sl_kernel_rfl
  show V m c main_v15 (((cfg0.win 13).blk t).view.emb (ix2 0 r)) = _
  rw [whole2 (((cfg0.win 13).blk t).view.emb (ix2 0 r)) 0 r rfl rfl, h]
  pointwise
  rfl

theorem blk14 (t : Fin cfg0.N) : (iblk m c 14 t : Vec Ideal S1x1 .f32) (ix2 0 0) = (kArgs m c).ms := by
  have h : V m c main_v16 = shapeCast S1x1 (m ((c : Thread nD τ).loc main_arg12)) shapeCasts_S_S1x1 := by sl_kernel_rfl
  show V m c main_v16 (((cfg0.win 14).blk t).view.emb (ix2 0 0)) = _
  rw [whole2 (((cfg0.win 14).blk t).view.emb (ix2 0 0)) 0 0 rfl rfl, h]
  pointwise
  rfl

theorem blk15 (t : Fin cfg0.N) (r : Fin 320) (b : Fin 768) :
    (iblk m c 15 t : Vec Ideal S320x768 .i8) (ix2 r b) = (kArgs m c).h0 b r := by
  have h : V m c main_v5 = transpose S320x768 [1, 0] (m ((c : Thread nD τ).loc main_arg13)) transposes_S768x320_S320x768_1_0 := by
    sl_kernel_rfl
  show V m c main_v5 (((cfg0.win 15).blk t).view.emb (ix2 r b)) = _
  rw [whole2 (((cfg0.win 15).blk t).view.emb (ix2 r b)) r b rfl rfl, h]
  pointwise
  rfl

theorem blk16 (t : Fin cfg0.N) (b : Fin 768) : (iblk m c 16 t : Vec Ideal S1x768 .f32) (ix2 0 b) = (kArgs m c).h0s b := by
  have h : V m c main_v17 = shapeCast S1x768 (m ((c : Thread nD τ).loc main_arg14)) shapeCasts_S768_S1x768 := by sl_kernel_rfl
  show V m c main_v17 (((cfg0.win 16).blk t).view.emb (ix2 0 b)) = _
  rw [whole2 (((cfg0.win 16).blk t).view.emb (ix2 0 b)) 0 b rfl rfl, h]
  pointwise
  rfl

theorem blk17 (t : Fin cfg0.N) (b : Fin 768) (n : Fin 1280) :
    (iblk m c 17 t : Vec Ideal S768x1280 .f32) (ix2 b n) = (kArgs m c).c0 b n := by
  have h : V m c main_arg15 = m ((c : Thread nD τ).loc main_arg15) := by sl_kernel_rfl
  show V m c main_arg15 (((cfg0.win 17).blk t).view.emb (ix2 b n)) = _
  rw [whole2 (((cfg0.win 17).blk t).view.emb (ix2 b n)) b n rfl rfl, h]
  rfl

end Cert.Proof.Model
end
-- ==== Proof.Model.lean ====
/-
  The kernel's body at one time step, written once over tiles: a row group `g` (of three), a gate, a tile of lanes.
  Every operation is the printed kernel's own, in the printed order; what the body reads from memory is a field of `Ld`.
-/
module

public import proofs.«01_k».proof.Proof.Gen.KernelIdeal.Skeleton

@[expose] public section

set_option maxRecDepth 16384

noncomputable section

namespace Cert.Proof.Model

open Cert.KernelIdeal Cert.KernelIdeal.Gen Idealize.ShloMosaic Idealize.ShloMosaic.TcCoe Idealize.SL.Sem

variable {F : FTy → Type} [FloatOps F] [Named F]

/-- What the body reads at one step: the frame's codes (transposed into the scratch tile) and scales, the frame counts
    laid out as a row and as a column, the carried codes and scales (both at the first stage and at the second), the cells,
    and the parameters, all by tile. -/
structure Ld (F : FTy → Type) where
  xt : Fin 3 → Vec F S1x256x320 .bf16
  xs : Fin 3 → Vec F S1x1x256 .f32
  hs : Fin 3 → Vec F S1x256 .f32
  nr : Fin 3 → Vec F S1x256 .i32
  nc : Fin 3 → Vec F S256x1 .i32
  h : Fin 3 → Vec F S256x320 .bf16
  hsLater : Fin 3 → Vec F S1x256 .f32
  hLater : Fin 3 → Vec F S256x320 .bf16
  c : Fin 3 → Fin 10 → Vec F S256x128 .f32
  wx : Fin 4 → Fin 5 → Vec F S320x256 .i8
  wh : Fin 4 → Fin 5 → Vec F S320x256 .i8
  wxs : Fin 4 → Fin 5 → Vec F S1x256 .f32
  whs : Fin 4 → Fin 5 → Vec F S1x256 .f32
  gain : Fin 4 → Fin 10 → Vec F S1x128 .f32
  bias : Fin 4 → Fin 10 → Vec F S1x128 .f32
  wp : Vec F S1280x320 .i8
  wps : Vec F S1x320 .f32
  ms : Elt F .f32
  t : BitVec 32

/-! ## Sums over lanes -/

/-- One 128-row chunk's lane sums, as a row: transposed, sublane groups of eight added, then rolled by 4, 2, 1. -/
def chunkSum (t : FVec F S128x128 .f32) : FVec F S1x128 .f32 :=
  let a0 : FVec F S8x128 .f32 := extractStridedSlice S8x128 ![0, 0] t slices_S128x128_o0_0_S8x128
  let a1 : FVec F S8x128 .f32 := addf a0 (extractStridedSlice S8x128 ![8, 0] t slices_S128x128_o8_0_S8x128)
  let a2 : FVec F S8x128 .f32 := addf a1 (extractStridedSlice S8x128 ![16, 0] t slices_S128x128_o16_0_S8x128)
  let a3 : FVec F S8x128 .f32 := addf a2 (extractStridedSlice S8x128 ![24, 0] t slices_S128x128_o24_0_S8x128)
  let a4 : FVec F S8x128 .f32 := addf a3 (extractStridedSlice S8x128 ![32, 0] t slices_S128x128_o32_0_S8x128)
  let a5 : FVec F S8x128 .f32 := addf a4 (extractStridedSlice S8x128 ![40, 0] t slices_S128x128_o40_0_S8x128)
  let a6 : FVec F S8x128 .f32 := addf a5 (extractStridedSlice S8x128 ![48, 0] t slices_S128x128_o48_0_S8x128)
  let a7 : FVec F S8x128 .f32 := addf a6 (extractStridedSlice S8x128 ![56, 0] t slices_S128x128_o56_0_S8x128)
  let a8 : FVec F S8x128 .f32 := addf a7 (extractStridedSlice S8x128 ![64, 0] t slices_S128x128_o64_0_S8x128)
  let a9 : FVec F S8x128 .f32 := addf a8 (extractStridedSlice S8x128 ![72, 0] t slices_S128x128_o72_0_S8x128)
  let a10 : FVec F S8x128 .f32 := addf a9 (extractStridedSlice S8x128 ![80, 0] t slices_S128x128_o80_0_S8x128)
  let a11 : FVec F S8x128 .f32 := addf a10 (extractStridedSlice S8x128 ![88, 0] t slices_S128x128_o88_0_S8x128)
  let a12 : FVec F S8x128 .f32 := addf a11 (extractStridedSlice S8x128 ![96, 0] t slices_S128x128_o96_0_S8x128)
  let a13 : FVec F S8x128 .f32 := addf a12 (extractStridedSlice S8x128 ![104, 0] t slices_S128x128_o104_0_S8x128)
  let a14 : FVec F S8x128 .f32 := addf a13 (extractStridedSlice S8x128 ![112, 0] t slices_S128x128_o112_0_S8x128)
  let a15 : FVec F S8x128 .f32 := addf a14 (extractStridedSlice S8x128 ![120, 0] t slices_S128x128_o120_0_S8x128)
  let b4 : FVec F S8x128 .f32 := addf a15 (dynamicRotate 0 4#32 none a15 rotates_S8x128_d0)
  let b2 : FVec F S8x128 .f32 := addf b4 (dynamicRotate 0 2#32 none b4 rotates_S8x128_d0)
  let b1 : FVec F S8x128 .f32 := addf b2 (dynamicRotate 0 1#32 none b2 rotates_S8x128_d0)
  extractStridedSlice S1x128 ![0, 0] b1 slices_S8x128_o0_0_S1x128

/-- The lane sums of 256 rows, as a row. -/
def laneSum (q : FVec F S256x128 .f32) : FVec F S1x256 .f32 :=
  concatenate S1x256 1
    [⟨S1x128, chunkSum (transpose S128x128 [1, 0]
        (extractStridedSlice S128x128 ![0, 0] q slices_S256x128_o0_0_S128x128) transposes_S128x128_p1_0_S128x128)⟩,
      ⟨S1x128, chunkSum (transpose S128x128 [1, 0]
        (extractStridedSlice S128x128 ![128, 0] q slices_S256x128_o128_0_S128x128) transposes_S128x128_p1_0_S128x128)⟩]
    concatenates_S1x128_S1x128_S1x256_d1

/-- The lane sums divided by the number of cells. -/
def meanRow (q : FVec F S256x128 .f32) : FVec F S1x256 .f32 :=
  mulf (laneSum q) (broadcast S1x256 (Named.named κ "inv_cell" 0x3A4CCCCD#32))

/-- The mean, as a column. -/
def meanCol (q : FVec F S256x128 .f32) : FVec F S256x1 .f32 :=
  shapeCast S256x1 (meanRow q) shapeCasts_S1x256_S256x1

/-- The reciprocal root of the mean plus epsilon, as a column. -/
def rstdCol (q : FVec F S256x128 .f32) : FVec F S256x1 .f32 :=
  shapeCast S256x1 (rsqrt (addf (meanRow q) (broadcast S1x256 (Scalar.ofBits .f32 0x3727C5AC#32))))
    shapeCasts_S1x256_S256x1

/-! ## The gates' sums -/

variable (l : Ld F)

/-- The frame scales of the group, as a column. -/
def xcol (g : Fin 3) : FVec F S256x1 .f32 := k0_pay15 (l.xs g)
/-- The code scales of the group, as a column. -/
def hcol (g : Fin 3) : FVec F S256x1 .f32 := k0_pay16 (l.hs g)
/-- The live rows, as a row. -/
def liveRow (g : Fin 3) : IVec S1x256 1 := k0_pay472 (F := F) l.t (l.nr g)
/-- The live rows, as a column. -/
def liveCol (g : Fin 3) : IVec S256x1 1 := k0_pay325 (F := F) l.t (l.nc g)

/-- A tile of the recurrent part. -/
def gh (g : Fin 3) (gate : Fin 4) (j : Fin 5) : FVec F S256x256 .f32 :=
  k0_pay19 (hcol l g) (l.h g) (l.wh gate j) (l.whs gate j)

/-- The traced part of the recurrent sums. -/
def ghOut (g : Fin 3) (gate : Fin 4) : FVec F S1x1x80x256 .f32 :=
  k0_pay20 (hcol l g) (liveRow l g) (l.h g) (l.wh gate 0) (l.whs gate 0)

/-- A tile of the gate's sums. -/
def z (g : Fin 3) (gate : Fin 4) (j : Fin 5) : FVec F S256x256 .f32 :=
  k0_pay21 (xcol l g) (hcol l g) (l.h g) (k0_pay18 (l.xt g) (l.wx gate j)) (l.wxs gate j) (l.wh gate j) (l.whs gate j)

/-- The tile as the scratch holds it. -/
def zPiece (g : Fin 3) (gate : Fin 4) (j : Fin 5) : FVec F S1x256x256 .f32 :=
  shapeCast S1x256x256 (z l g gate j) shapeCasts_S256x256_S1x256x256

/-- The left 128 lanes of a tile. -/
def lo (a : FVec F S256x256 .f32) : FVec F S256x128 .f32 := extractStridedSlice S256x128 ![0, 0] a slices_S256x256_o0_0_S256x128
/-- The right 128 lanes of a tile. -/
def hi (a : FVec F S256x256 .f32) : FVec F S256x128 .f32 := extractStridedSlice S256x128 ![0, 128] a slices_S256x256_o0_128_S256x128

/-- The gate's ten lane tiles added. -/
def accZ (g : Fin 3) (gate : Fin 4) : FVec F S256x128 .f32 :=
  let a0 := addf (lo (z l g gate 0)) (hi (z l g gate 0))
  let a1 := addf (addf a0 (lo (z l g gate 1))) (hi (z l g gate 1))
  let a2 := addf (addf a1 (lo (z l g gate 2))) (hi (z l g gate 2))
  let a3 := addf (addf a2 (lo (z l g gate 3))) (hi (z l g gate 3))
  let a4 := addf (addf a3 (lo (z l g gate 4))) (hi (z l g gate 4))
  a4

/-- The gate's mean. -/
def mean (g : Fin 3) (gate : Fin 4) : FVec F S256x1 .f32 := meanCol (accZ l g gate)

/-! ## The second stage, from what the scratch holds -/

/-- A tile less the mean. -/
def cent (mu : FVec F S256x1 .f32) (v : Vec F S1x256x128 .f32) : FVec F S256x128 .f32 := k0_pay210 mu v

/-- That, as the scratch holds it. -/
def centPiece (mu : FVec F S256x1 .f32) (v : Vec F S1x256x128 .f32) : FVec F S1x256x128 .f32 :=
  shapeCast S1x256x128 (cent mu v) shapeCasts_S256x128_S1x256x128

/-- The squares of the ten centred tiles added. -/
def accD (d : Fin 10 → FVec F S256x128 .f32) : FVec F S256x128 .f32 :=
  let a0 := mulf (d 0) (d 0)
  let a1 := addf a0 (mulf (d 1) (d 1))
  let a2 := addf a1 (mulf (d 2) (d 2))
  let a3 := addf a2 (mulf (d 3) (d 3))
  let a4 := addf a3 (mulf (d 4) (d 4))
  let a5 := addf a4 (mulf (d 5) (d 5))
  let a6 := addf a5 (mulf (d 6) (d 6))
  let a7 := addf a6 (mulf (d 7) (d 7))
  let a8 := addf a7 (mulf (d 8) (d 8))
  let a9 := addf a8 (mulf (d 9) (d 9))
  a9

/-- A normalised tile. -/
def zn (rs : FVec F S256x1 .f32) (v : Vec F S1x256x128 .f32) (gain bias : Vec F S1x128 .f32) : FVec F S256x128 .f32 :=
  k0_pay329 rs v gain bias

/-- The new cells of a tile, before the mask. -/
def cNew (z0 z1 z2 : FVec F S256x128 .f32) (c : Vec F S256x128 .f32) : FVec F S256x128 .f32 := k0_pay332 z0 z1 z2 c

/-- The masked cells of a tile. -/
def cSel (live : IVec S256x1 1) (c : Vec F S256x128 .f32) (cn : FVec F S256x128 .f32) : FVec F S256x128 .f32 :=
  select (k0_pay334 live) cn c

/-- The cell codes of a tile. -/
def mNew (rms : FVec F S1x128 .f32) (z0 z1 z2 z3 : FVec F S256x128 .f32) (c : Vec F S256x128 .f32) :
    FVec F S256x128 .f32 :=
  minimumf (broadcast S256x128 (Scalar.ofBits .f32 0x42FE0000#32))
    (maximumf (broadcast S256x128 (Scalar.ofBits .f32 0xC2FE0000#32))
      (roundeven (mulf (mulf
        (divf (broadcast S256x128 (Scalar.ofBits .f32 0x3F800000#32))
          (addf (broadcast S256x128 (Scalar.ofBits .f32 0x3F800000#32))
            (exp (subf (broadcast S256x128 (Scalar.ofBits .f32 0x00000000#32)) z3))))
        (tanh (cNew z0 z1 z2 c))) (broadcastTo S256x128 rms broadcasts_S1x128_S256x128))))

/-- The projection of the cell codes. -/
def hf (ms : Elt F .f32) (m : Fin 10 → FVec F S256x128 .f32) (wp : Vec F S1280x320 .i8) (wps : Vec F S1x320 .f32) :
    FVec F S256x320 .f32 :=
  k0_pay465 ms (k0_pay339 (m 0)) (k0_pay339 (m 1)) (k0_pay339 (m 2)) (k0_pay339 (m 3)) (k0_pay339 (m 4))
    (k0_pay339 (m 5)) (k0_pay339 (m 6)) (k0_pay339 (m 7)) (k0_pay339 (m 8)) (m 9) wp wps

/-- The projection, transposed. -/
def hfT (v : FVec F S256x320 .f32) : FVec F S320x256 .f32 :=
  transpose S320x256 [1, 0] v transposes_S256x320_p1_0_S320x256

/-- The scale of each row's codes. -/
def scale (v : FVec F S256x320 .f32) : FVec F S1x256 .f32 :=
  let a : FVec F S1x256 .f32 := shapeCast S1x256
    (multiReduction .maximumf [0] S256 (absf (hfT v)) 0xFF800000#32 reduces_S320x256_S256 (.inl rfl) rfl)
    shapeCasts_S256_S1x256
  select (cmpf .oeq a (broadcast S1x256 (Scalar.ofBits .f32 0x00000000#32)))
    (broadcast S1x256 (Scalar.ofBits .f32 0x3F800000#32))
    (divf a (broadcast S1x256 (Scalar.ofBits .f32 0x42FE0000#32)))

/-- The new codes, masked. -/
def hNew (live : IVec S256x1 1) (v : FVec F S256x320 .f32) (h : Vec F S256x320 .bf16) : FVec F S256x320 .f32 :=
  k0_pay469 live v (scale v) k0_pay468 h

end Cert.Proof.Model
end
-- ==== Proof.Lists.lean ====
/-
  What the kernel's body writes at one time step, as lists of tiles: the normalisation scratch with its two slots, the
  carried state, the results.
-/
module

public import proofs.«01_k».proof.Proof.Model
public import Idealize.ShloMosaic.Lib.Pipeline.FrameBody

@[expose] public section

set_option maxRecDepth 16384

noncomputable section

namespace Cert.Proof.Model

open Cert.KernelIdeal Cert.KernelIdeal.Gen Idealize.ShloMosaic Idealize.ShloMosaic.TcCoe Idealize.SL.Sem

variable {F : FTy → Type} [FloatOps F] [Named F]

/-- The scratch of the normalisation. -/
abbrev ZView (κ : Kind) (sp : Space) := View sig κ sp S2x256x5120 .f32

variable {κ' : Kind} {sp' : Space} (vz : ZView κ' sp') (l : Ld F)

/-- The slot of a row group. -/
def slot (g : Fin 3) : Nat := match g with | 0 => 0 | 1 => 1 | 2 => 0

theorem slot_lt (g : Fin 3) : slot g < 2 := by revert g; decide

/-- A tile of a gate's sums in the scratch. -/
def rectZ (g : Fin 3) (gate : Fin 4) (j : Fin 5) : Rect S2x256x5120 :=
  Rect.unit ![slot g, 0, 1280 * gate.val + 256 * j.val] S1x256x256.size (by
    have := slot_lt g
    intro a; fin_cases a
    · show slot g + 1 ≤ 2; omega
    · show 0 + 256 ≤ 256; omega
    · show 1280 * gate.val + 256 * j.val + 256 ≤ 5120; omega)

/-- A lane tile in the scratch. -/
def rectD (g : Fin 3) (k : Nat) : Rect S2x256x5120 :=
  Rect.unit ![slot g, 0, 128 * (k % 40)] S1x256x128.size (by
    have := slot_lt g
    intro a; fin_cases a
    · show slot g + 1 ≤ 2; omega
    · show 0 + 256 ≤ 256; omega
    · show 128 * (k % 40) + 128 ≤ 5120; omega)

/-- The gates and column tiles, last first. -/
def tilesZ : List (Fin 4 × Fin 5) :=
  [(3, 4), (3, 3), (3, 2), (3, 1), (3, 0), (2, 4), (2, 3), (2, 2), (2, 1), (2, 0), (1, 4), (1, 3), (1, 2), (1, 1), (1, 0),
    (0, 4), (0, 3), (0, 2), (0, 1), (0, 0)]

/-- A group's sums written over what the scratch held. -/
def zList (g : Fin 3) (L : List (View.Piece (Elt F) S2x256x5120 .f32)) : List (View.Piece (Elt F) S2x256x5120 .f32) :=
  tilesZ.map (fun p => ⟨rectZ g p.1 p.2, zPiece l g p.1 p.2⟩) ++ L

/-- The first `k` lane tiles centred in place. -/
def dList (g : Fin 3) (L : List (View.Piece (Elt F) S2x256x5120 .f32)) : Nat → List (View.Piece (Elt F) S2x256x5120 .f32)
  | 0 => L
  | k + 1 => ⟨rectD g k, centPiece (mean l g (Fin.ofNat 4 (k / 10))) (vz.readCov (dList g L k) (rectD g k).toLoadRect)⟩ :: dList g L k

/-- The scratch before each group's second stage. -/
def base : Fin 3 → List (View.Piece (Elt F) S2x256x5120 .f32)
  | 0 => zList l 1 (zList l 0 [])
  | 1 => zList l 2 (dList vz l 0 (zList l 1 (zList l 0 [])) 40)
  | 2 => dList vz l 1 (zList l 2 (dList vz l 0 (zList l 1 (zList l 0 [])) 40)) 40

/-- A lane tile as the second stage loads it, after `k` tiles are centred. -/
def tileAt (g : Fin 3) (k i : Nat) : Vec F S1x256x128 .f32 :=
  vz.readCov (dList vz l g (base vz l g) k) (rectD g i).toLoadRect

/-- The gate's reciprocal deviation. -/
def rst (g : Fin 3) (gate : Fin 4) : FVec F S256x1 .f32 :=
  rstdCol (accD fun t => cent (mean l g gate) (tileAt vz l g (10 * gate.val + t.val) (10 * gate.val + t.val)))

/-- The gate normalised, by lane tile. -/
def znT (g : Fin 3) (gate : Fin 4) (t : Fin 10) : FVec F S256x128 .f32 :=
  zn (rst vz l g gate) (tileAt vz l g 40 (10 * gate.val + t.val)) (l.gain gate t) (l.bias gate t)

/-- The new cells, by lane tile. -/
def cT (g : Fin 3) (t : Fin 10) : FVec F S256x128 .f32 :=
  cNew (znT vz l g 0 t) (znT vz l g 1 t) (znT vz l g 2 t) (l.c g t)

/-- The kept cells. -/
def cS (g : Fin 3) (t : Fin 10) : FVec F S256x128 .f32 := cSel (liveCol l g) (l.c g t) (cT vz l g t)

/-- The cell codes. -/
def mT (g : Fin 3) (t : Fin 10) : FVec F S256x128 .f32 :=
  mNew (k0_pay13 l.ms) (znT vz l g 0 t) (znT vz l g 1 t) (znT vz l g 2 t) (znT vz l g 3 t) (l.c g t)

/-- The projection. -/
def hfV (g : Fin 3) : FVec F S256x320 .f32 := hf l.ms (mT vz l g) l.wp l.wps

/-- The kept codes. -/
def hS (g : Fin 3) : FVec F S256x320 .f32 := hNew (liveCol l g) (hfV vz l g) (l.hLater g)

/-- The kept scale. -/
def sS (g : Fin 3) : FVec F S1x256 .f32 := select (liveRow l g) (scale (hfV vz l g)) (l.hsLater g)

/-! ## The lists -/

/-- Row groups and lane tiles, last first. -/
def tilesC : List (Fin 3 × Fin 10) :=
  [(2, 9), (2, 8), (2, 7), (2, 6), (2, 5), (2, 4), (2, 3), (2, 2), (2, 1), (2, 0),
    (1, 9), (1, 8), (1, 7), (1, 6), (1, 5), (1, 4), (1, 3), (1, 2), (1, 1), (1, 0),
    (0, 9), (0, 8), (0, 7), (0, 6), (0, 5), (0, 4), (0, 3), (0, 2), (0, 1), (0, 0)]

/-- Row groups and gates, last first. -/
def tilesG : List (Fin 3 × Fin 4) :=
  [(2, 3), (2, 2), (2, 1), (2, 0), (1, 3), (1, 2), (1, 1), (1, 0), (0, 3), (0, 2), (0, 1), (0, 0)]

/-- Row groups, last first. -/
def tilesR : List (Fin 3) := [2, 1, 0]

def rectC (g : Fin 3) (t : Fin 10) : Rect S1x768x1280 :=
  Rect.unit ![0, 256 * g.val, 128 * t.val] S1x256x128.size (by
    intro a; fin_cases a
    · show 0 + 1 ≤ 1; omega
    · show 256 * g.val + 256 ≤ 768; omega
    · show 128 * t.val + 128 ≤ 1280; omega)

def rectCst (g : Fin 3) (t : Fin 10) : Rect S768x1280 :=
  Rect.unit ![256 * g.val, 128 * t.val] S256x128.size (by
    intro a; fin_cases a
    · show 256 * g.val + 256 ≤ 768; omega
    · show 128 * t.val + 128 ≤ 1280; omega)

def rectG (g : Fin 3) (gate : Fin 4) : Rect S1x4x80x768 :=
  Rect.unit ![0, gate.val, 0, 256 * g.val] S1x1x80x256.size (by
    intro a; fin_cases a
    · show 0 + 1 ≤ 1; omega
    · show gate.val + 1 ≤ 4; omega
    · show 0 + 80 ≤ 80; omega
    · show 256 * g.val + 256 ≤ 768; omega)

def rectH (g : Fin 3) : Rect S1x320x768 :=
  Rect.unit ![0, 0, 256 * g.val] S1x320x256.size (by
    intro a; fin_cases a
    · show 0 + 1 ≤ 1; omega
    · show 0 + 320 ≤ 320; omega
    · show 256 * g.val + 256 ≤ 768; omega)

def rectHst (g : Fin 3) : Rect S768x320 :=
  Rect.unit ![256 * g.val, 0] S256x320.size (by
    intro a; fin_cases a
    · show 256 * g.val + 256 ≤ 768; omega
    · show 0 + 320 ≤ 320; omega)

def rectS (g : Fin 3) : Rect S1x1x768 :=
  Rect.unit ![0, 0, 256 * g.val] S1x1x256.size (by
    intro a; fin_cases a
    · show 0 + 1 ≤ 1; omega
    · show 0 + 1 ≤ 1; omega
    · show 256 * g.val + 256 ≤ 768; omega)

def rectSst (g : Fin 3) : Rect S1x768 :=
  Rect.unit ![0, 256 * g.val] S1x256.size (by
    intro a; fin_cases a
    · show 0 + 1 ≤ 1; omega
    · show 256 * g.val + 256 ≤ 768; omega)

/-- The codes' result. -/
def hPiece (g : Fin 3) : Vec F S1x320x256 .i8 := k0_pay471 (liveCol l g) (hfV vz l g) (scale (hfV vz l g)) k0_pay468 (l.hLater g)
def hL : List (View.Piece (Elt F) S1x320x768 .i8) := tilesR.map fun g => ⟨rectH g, hPiece vz l g⟩

/-- The scales' result. -/
def sPiece (g : Fin 3) : Vec F S1x1x256 .f32 := shapeCast S1x1x256 (sS vz l g) shapeCasts_S1x256_S1x1x256
def sL : List (View.Piece (Elt F) S1x1x768 .f32) := tilesR.map fun g => ⟨rectS g, sPiece vz l g⟩

/-- The projection's result. -/
def hfPiece (g : Fin 3) : Vec F S1x320x256 .f32 := k0_pay473 l.t (hfT (hfV vz l g)) (l.nr g)
def hfL : List (View.Piece (Elt F) S1x320x768 .f32) := tilesR.map fun g => ⟨rectH g, hfPiece vz l g⟩

/-- The traced recurrent sums. -/
def ghL : List (View.Piece (Elt F) S1x4x80x768 .f32) := tilesG.map fun p => ⟨rectG p.1 p.2, ghOut l p.1 p.2⟩

/-- The cell codes' result. -/
def mPiece (g : Fin 3) (t : Fin 10) : Vec F S1x256x128 .i8 := k0_pay338 (liveCol l g) (mT vz l g t)
def mL : List (View.Piece (Elt F) S1x768x1280 .i8) := tilesC.map fun p => ⟨rectC p.1 p.2, mPiece vz l p.1 p.2⟩

/-- The cells' result. -/
def cPiece (g : Fin 3) (t : Fin 10) : Vec F S1x256x128 .f32 := shapeCast S1x256x128 (cS vz l g t) shapeCasts_S256x128_S1x256x128
def cL : List (View.Piece (Elt F) S1x768x1280 .f32) := tilesC.map fun p => ⟨rectC p.1 p.2, cPiece vz l p.1 p.2⟩

/-- The carried codes. -/
def hstPiece (g : Fin 3) : Vec F S256x320 .bf16 := k0_pay470 (liveCol l g) (hfV vz l g) (scale (hfV vz l g)) k0_pay468 (l.hLater g)
def hstL : List (View.Piece (Elt F) S768x320 .bf16) := tilesR.map fun g => ⟨rectHst g, hstPiece vz l g⟩

/-- The carried scales. -/
def sstPiece (g : Fin 3) : Vec F S1x256 .f32 := shapeCast S1x256 (sS vz l g) shapeCasts_S1x256_S1x256
def sstL : List (View.Piece (Elt F) S1x768 .f32) := tilesR.map fun g => ⟨rectSst g, sstPiece vz l g⟩

/-- The carried cells. -/
def cstPiece (g : Fin 3) (t : Fin 10) : Vec F S256x128 .f32 := shapeCast S256x128 (cS vz l g t) shapeCasts_S256x128_S256x128
def cstL : List (View.Piece (Elt F) S768x1280 .f32) := tilesC.map fun p => ⟨rectCst p.1 p.2, cstPiece vz l p.1 p.2⟩

/-! ## The loads -/

/-- What memory the body reads: the operands by rectangle, and the carried state. -/
structure Mem (F : FTy → Type) where
  x : ∀ r : LoadRect S1x320x768, r.shape.Idx → Elt F .i8
  xs : ∀ r : LoadRect S1x1x768, r.shape.Idx → Elt F .f32
  nr : ∀ r : LoadRect S1x768, r.shape.Idx → Elt F .i32
  nc : ∀ r : LoadRect S768x1, r.shape.Idx → Elt F .i32
  wx : ∀ r : LoadRect S320x5120, r.shape.Idx → Elt F .i8
  wxs : ∀ r : LoadRect S1x5120, r.shape.Idx → Elt F .f32
  wh : ∀ r : LoadRect S320x5120, r.shape.Idx → Elt F .i8
  whs : ∀ r : LoadRect S1x5120, r.shape.Idx → Elt F .f32
  gain : ∀ r : LoadRect S1x5120, r.shape.Idx → Elt F .f32
  bias : ∀ r : LoadRect S1x5120, r.shape.Idx → Elt F .f32
  wp : ∀ r : LoadRect S1280x320, r.shape.Idx → Elt F .i8
  wps : ∀ r : LoadRect S1x320, r.shape.Idx → Elt F .f32
  ms : Elt F .f32
  t : BitVec 32
  h : ∀ r : LoadRect S768x320, r.shape.Idx → Elt F .bf16
  hs : ∀ r : LoadRect S1x768, r.shape.Idx → Elt F .f32
  c : ∀ r : LoadRect S768x1280, r.shape.Idx → Elt F .f32

def rectX : Rect S1x256x320 := Rect.unit ![0, 0, 0] S1x256x320.size (by intro a; fin_cases a <;> decide)

def rectNc (g : Fin 3) : Rect S768x1 :=
  Rect.unit ![256 * g.val, 0] S256x1.size (by
    intro a; fin_cases a
    · show 256 * g.val + 256 ≤ 768; omega
    · show 0 + 1 ≤ 1; omega)

def rectW (gate : Fin 4) (j : Fin 5) : Rect S320x5120 :=
  Rect.unit ![0, 1280 * gate.val + 256 * j.val] S320x256.size (by
    intro a; fin_cases a
    · show 0 + 320 ≤ 320; omega
    · show 1280 * gate.val + 256 * j.val + 256 ≤ 5120; omega)

def rectWs (gate : Fin 4) (j : Fin 5) : Rect S1x5120 :=
  Rect.unit ![0, 1280 * gate.val + 256 * j.val] S1x256.size (by
    intro a; fin_cases a
    · show 0 + 1 ≤ 1; omega
    · show 1280 * gate.val + 256 * j.val + 256 ≤ 5120; omega)

def rectGb (gate : Fin 4) (t : Fin 10) : Rect S1x5120 :=
  Rect.unit ![0, 1280 * gate.val + 128 * t.val] S1x128.size (by
    intro a; fin_cases a
    · show 0 + 1 ≤ 1; omega
    · show 1280 * gate.val + 128 * t.val + 128 ≤ 5120; omega)

def rectWp : Rect S1280x320 := Rect.unit ![0, 0] S1280x320.size (by intro a; fin_cases a <;> decide)
def rectWps : Rect S1x320 := Rect.unit ![0, 0] S1x320.size (by intro a; fin_cases a <;> decide)

def rectH0 (g : Fin 3) : Rect S320x768 :=
  Rect.unit ![0, 256 * g.val] S320x256.size (by
    intro a; fin_cases a
    · show 0 + 320 ≤ 320; omega
    · show 256 * g.val + 256 ≤ 768; omega)

def rectC0 (g : Fin 3) : Rect S768x1280 :=
  Rect.unit ![256 * g.val, 0] S256x1280.size (by
    intro a; fin_cases a
    · show 256 * g.val + 256 ≤ 768; omega
    · show 0 + 1280 ≤ 1280; omega)

def rectHs0 : Rect S1x768 := Rect.unit ![0, 0] S1x768.size (by intro a; fin_cases a <;> decide)

/-- The scratch of the frame's codes after each group's write. -/
def xList (M : Mem F) : Fin 3 → List (View.Piece (Elt F) S1x256x320 .bf16)
  | 0 => [⟨rectX, k0_pay14 (M.x (rectH 0).toLoadRect)⟩]
  | 1 => [⟨rectX, k0_pay14 (M.x (rectH 1).toLoadRect)⟩, ⟨rectX, k0_pay14 (M.x (rectH 0).toLoadRect)⟩]
  | 2 => [⟨rectX, k0_pay14 (M.x (rectH 2).toLoadRect)⟩, ⟨rectX, k0_pay14 (M.x (rectH 1).toLoadRect)⟩,
      ⟨rectX, k0_pay14 (M.x (rectH 0).toLoadRect)⟩]

/-- The body's loads. -/
def ofMem {κ' : Kind} {sp' : Space} (vx : View sig κ' sp' S1x256x320 .bf16) (M : Mem F) : Ld F where
  xt g := vx.readCov (xList M g) rectX.toLoadRect
  xs g := M.xs (rectS g).toLoadRect
  hs g := M.hs (rectSst g).toLoadRect
  nr g := M.nr (rectSst g).toLoadRect
  nc g := M.nc (rectNc g).toLoadRect
  h g := M.h (rectHst g).toLoadRect
  hsLater g := M.hs (rectSst g).toLoadRect
  hLater g := M.h (rectHst g).toLoadRect
  c g t := M.c (rectCst g t).toLoadRect
  wx gate j := M.wx (rectW gate j).toLoadRect
  wh gate j := M.wh (rectW gate j).toLoadRect
  wxs gate j := M.wxs (rectWs gate j).toLoadRect
  whs gate j := M.whs (rectWs gate j).toLoadRect
  gain gate t := M.gain (rectGb gate t).toLoadRect
  bias gate t := M.bias (rectGb gate t).toLoadRect
  wp := M.wp rectWp.toLoadRect
  wps := M.wps rectWps.toLoadRect
  ms := M.ms
  t := M.t

end Cert.Proof.Model
end
-- ==== Proof.Lookup.lean ====
/-
  What the normalisation scratch holds where the second stage loads it: the group's sums, less the mean once centred.
-/
module

public import proofs.«01_k».proof.Proof.Lists
public import Idealize.ShloMosaic.Lib.Pointwise
public import Idealize.ShloMosaic.Lib.Pipeline.ValueKit.Tiles

@[expose] public section

set_option maxRecDepth 16384

noncomputable section

namespace Cert.Proof.Model

open Cert.KernelIdeal Cert.KernelIdeal.Gen Idealize.ShloMosaic Idealize.ShloMosaic.TcCoe Idealize.SL.Sem

section Canon
variable {Val : EltTy → Type} {s : Shape} {e : EltTy} [∀ e, Nonempty (Val e)]

/-- Of disjoint tiles written over a list, a tile reads its own write. -/
theorem canon_tiles {ι : Type} [DecidableEq ι] (r : ι → Rect s) (w : ∀ i, (r i).shape.Idx → Val e)
    (L : List (View.Piece Val s e)) (i : ι) (x : (r i).shape.Idx)
    (hd : ∀ j, j ≠ i → Disjoint (r j).set (r i).set) :
    ∀ ps : List ι, i ∈ ps → View.canon (ps.map (fun j => (⟨r j, w j⟩ : View.Piece Val s e)) ++ L) ((r i).emb x) = w i x
  | [], h => absurd h (by simp)
  | p :: ps, h => by
    by_cases hp : p = i
    · subst hp
      exact View.canon_cons_emb _ _ _ _
    · rw [List.map_cons, List.cons_append, View.canon_cons_of_not_mem _ _
        (Finset.disjoint_right.mp (hd p hp) ((r i).idx_mem x))]
      exact canon_tiles r w L i x hd ps (by simpa [Ne.symm hp] using h)

end Canon

variable {F : FTy → Type} [FloatOps F] [Named F] [∀ e, Nonempty (Elt F e)]
variable {κ' : Kind} {sp' : Space} (vz : ZView κ' sp') (l : Ld F)

theorem rectZ_disjoint (g : Fin 3) (p q : Fin 4 × Fin 5) (h : p ≠ q) :
    Disjoint (rectZ g p.1 p.2).set (rectZ g q.1 q.2).set := by
  refine Rect.unit_disjoint 2 ?_
  show 1280 * p.1.val + 256 * p.2.val + 256 ≤ 1280 * q.1.val + 256 * q.2.val ∨
    1280 * q.1.val + 256 * q.2.val + 256 ≤ 1280 * p.1.val + 256 * p.2.val
  have : p.1.val ≠ q.1.val ∨ p.2.val ≠ q.2.val := by
    by_contra hh
    push Not at hh
    exact h (Prod.ext (Fin.ext hh.1) (Fin.ext hh.2))
  omega

theorem rectZD_disjoint (g g' : Fin 3) (h : slot g ≠ slot g') (p : Fin 4 × Fin 5) (k : Nat) :
    Disjoint (rectZ g p.1 p.2).set (rectD g' k).set := by
  refine Rect.unit_disjoint 0 ?_
  show slot g + 1 ≤ slot g' ∨ slot g' + 1 ≤ slot g
  omega

theorem rectDD_disjoint (g g' : Fin 3) (h : slot g ≠ slot g') (i k : Nat) :
    Disjoint (rectD g i).set (rectD g' k).set := by
  refine Rect.unit_disjoint 0 ?_
  show slot g + 1 ≤ slot g' ∨ slot g' + 1 ≤ slot g
  omega

theorem rectD_disjoint (g : Fin 3) (i k : Nat) (hi : i < 40) (hk : k < 40) (h : i ≠ k) :
    Disjoint (rectD g i).set (rectD g k).set := by
  refine Rect.unit_disjoint 2 ?_
  show 128 * (i % 40) + 128 ≤ 128 * (k % 40) ∨ 128 * (k % 40) + 128 ≤ 128 * (i % 40)
  omega

/-- A lane tile lies in its half of a column tile. -/
theorem emb_tile (g : Fin 3) (gate : Fin 4) (t : Fin 10) (b : Fin 256) (n : Fin 128) :
    (rectD g (10 * gate.val + t.val)).emb (ix3 0 b n : S1x256x128.Idx)
      = (rectZ g gate ⟨t.val / 2, by omega⟩).emb (ix3 0 b ⟨128 * (t.val % 2) + n.val, by omega⟩ : S1x256x256.Idx) := by
  funext a
  apply Fin.ext
  refine (Rect.idx_unit_val _ _ _ _ a).trans (Eq.trans ?_ (Rect.idx_unit_val _ _ _ _ a).symm)
  fin_cases a
  · rfl
  · rfl
  · show 128 * ((10 * gate.val + t.val) % 40) + n.val
      = 1280 * gate.val + 256 * (t.val / 2) + (128 * (t.val % 2) + n.val)
    omega

/-- A lane tile of a group's sums. -/
def zTile (g : Fin 3) (gate : Fin 4) (t : Fin 10) : Vec F S1x256x128 .f32 := fun x =>
  zPiece l g gate ⟨t.val / 2, by omega⟩ (ix3 0 (x 1) ⟨128 * (t.val % 2) + (x 2).val, by
    have : (x 2).val < 128 := (x 2).isLt
    omega⟩ : S1x256x256.Idx)

theorem tilesZ_mem (p : Fin 4 × Fin 5) : p ∈ tilesZ := by revert p; decide

theorem zList_hit (g : Fin 3) (L) (gate : Fin 4) (t : Fin 10) (b : Fin 256) (n : Fin 128) :
    View.canon (zList l g L) ((rectD g (10 * gate.val + t.val)).emb (ix3 0 b n : S1x256x128.Idx))
      = zTile l g gate t (ix3 0 b n) := by
  rw [emb_tile]
  exact canon_tiles (fun p : Fin 4 × Fin 5 => rectZ g p.1 p.2) (fun p => zPiece l g p.1 p.2) L
    (gate, ⟨t.val / 2, by omega⟩) _ (fun q hq => rectZ_disjoint g q _ hq) tilesZ (tilesZ_mem _)

theorem zList_off (g : Fin 3) (L : List (View.Piece (Elt F) S2x256x5120 .f32)) (y : S2x256x5120.Idx)
    (hx : ∀ p : Fin 4 × Fin 5, y ∉ (rectZ g p.1 p.2).set) : View.canon (zList l g L) y = View.canon L y := by
  unfold zList
  generalize tilesZ = ps
  induction ps with
  | nil => rfl
  | cons p ps ih =>
    refine Eq.trans (View.canon_cons_of_not_mem _ _ ?_) ih
    exact hx p

theorem zList_skip (g g' : Fin 3) (h : slot g ≠ slot g') (L : List (View.Piece (Elt F) S2x256x5120 .f32)) (k : Nat)
    (x : (rectD g' k).shape.Idx) :
    View.canon (zList l g L) ((rectD g' k).emb x) = View.canon L ((rectD g' k).emb x) := by
  refine zList_off l g L ((rectD g' k).emb x) ?_
  intro p
  exact Finset.disjoint_right.mp (rectZD_disjoint g g' h p k) ((rectD g' k).idx_mem x)

/-- The lane tile centred last. -/
def dPiece (g : Fin 3) (L : List (View.Piece (Elt F) S2x256x5120 .f32)) (k : Nat) : (rectD g k).shape.Idx → Elt F .f32 :=
  centPiece (mean l g (Fin.ofNat 4 (k / 10))) (vz.readCov (dList vz l g L k) (rectD g k).toLoadRect)

theorem dList_succ (g : Fin 3) (L : List (View.Piece (Elt F) S2x256x5120 .f32)) (k : Nat) :
    dList vz l g L (k + 1) = ⟨rectD g k, dPiece vz l g L k⟩ :: dList vz l g L k := rfl

theorem dList_off (g : Fin 3) (L : List (View.Piece (Elt F) S2x256x5120 .f32)) (k : Nat) (y : S2x256x5120.Idx)
    (h : y ∉ (rectD g k).set) : View.canon (dList vz l g L (k + 1)) y = View.canon (dList vz l g L k) y := by
  rw [dList_succ]
  exact View.canon_cons_of_not_mem _ _ h

theorem dList_skip (g g' : Fin 3) (h : slot g ≠ slot g') (L : List (View.Piece (Elt F) S2x256x5120 .f32)) (k : Nat)
    (x : (rectD g' k).shape.Idx) (n : Nat) :
    View.canon (dList vz l g L n) ((rectD g' k).emb x) = View.canon L ((rectD g' k).emb x) := by
  have hx : ∀ n, (rectD g' k).emb x ∉ (rectD g n).set := fun n =>
    Finset.disjoint_right.mp (rectDD_disjoint g g' h n k) ((rectD g' k).idx_mem x)
  generalize (rectD g' k).emb x = y at hx ⊢
  induction n with
  | zero => rfl
  | succ n ih => exact (dList_off vz l g L n y (hx n)).trans ih

/-- A lane tile before it is centred, and after. -/
theorem dList_at (g : Fin 3) (L : List (View.Piece (Elt F) S2x256x5120 .f32)) (i : Nat) (hi : i < 40) (n : Nat)
    (hn : n ≤ 40) : ∀ x : (rectD g i).shape.Idx, View.canon (dList vz l g L n) ((rectD g i).emb x)
      = if i < n then (centPiece (mean l g (Fin.ofNat 4 (i / 10))) (fun y => View.canon L ((rectD g i).emb y)) :
          (rectD g i).shape.Idx → Elt F .f32) x
        else View.canon L ((rectD g i).emb x) := by
  induction n with
  | zero => intro x; rw [if_neg (by omega)]; rfl
  | succ n ih =>
    intro x
    by_cases h : i = n
    · subst h
      rw [dList_succ, if_pos (by omega)]
      refine (View.canon_cons_emb (rectD g i) (dPiece vz l g L i) (dList vz l g L i) x).trans ?_
      unfold dPiece
      rw [View.readCov_eq_canon']
      have e : (fun y => View.canon (dList vz l g L i) ((rectD g i).idx y)) = fun y => View.canon L ((rectD g i).emb y) :=
        funext fun y => (ih (by omega) y).trans (if_neg (by omega))
      exact congrFun (congrArg (centPiece (mean l g (Fin.ofNat 4 (i / 10)))) e) x
    · refine (dList_off vz l g L n ((rectD g i).emb x) (Finset.disjoint_right.mp
        (rectD_disjoint g n i (by omega) hi (Ne.symm h)) ((rectD g i).idx_mem x))).trans ((ih (by omega) x).trans ?_)
      by_cases h' : i < n
      · rw [if_pos h', if_pos (by omega)]
      · rw [if_neg h', if_neg (by omega)]

/-- Before its second stage a group's slot holds its sums. -/
theorem base_at (g : Fin 3) (gate : Fin 4) (t : Fin 10) (b : Fin 256) (n : Fin 128) :
    View.canon (base vz l g) ((rectD g (10 * gate.val + t.val)).emb (ix3 0 b n : S1x256x128.Idx))
      = zTile l g gate t (ix3 0 b n) := by
  fin_cases g
  · exact (zList_skip l 1 0 (by decide) _ _ _).trans (zList_hit l 0 _ gate t b n)
  · exact (zList_skip l 2 1 (by decide) _ _ _).trans ((dList_skip vz l 0 1 (by decide) _ _ _ 40).trans (zList_hit l 1 _ gate t b n))
  · exact (dList_skip vz l 1 2 (by decide) _ _ _ 40).trans (zList_hit l 2 _ gate t b n)

theorem ix3_eta (x : S1x256x128.Idx) : x = ix3 0 (x 1) (x 2) := by
  funext a
  fin_cases a
  · have : (x 0).val < 1 := (x 0).isLt
    exact Fin.ext (by show (x 0).val = 0; omega)
  · rfl
  · rfl

theorem base_tile (g : Fin 3) (gate : Fin 4) (t : Fin 10) (x : S1x256x128.Idx) :
    View.canon (base vz l g) ((rectD g (10 * gate.val + t.val)).emb x) = zTile l g gate t x := by
  rw [ix3_eta x]; exact base_at vz l g gate t _ _

/-- The second stage's first load of a lane tile. -/
theorem tile_raw (g : Fin 3) (gate : Fin 4) (t : Fin 10) :
    tileAt vz l g (10 * gate.val + t.val) (10 * gate.val + t.val) = zTile l g gate t := by
  unfold tileAt
  rw [View.readCov_eq_canon']
  funext x
  exact ((dList_at vz l g _ _ (by omega) _ (by omega) x).trans (if_neg (by omega))).trans (base_tile vz l g gate t x)

/-- And its second. -/
theorem tile_cent (g : Fin 3) (gate : Fin 4) (t : Fin 10) :
    tileAt vz l g 40 (10 * gate.val + t.val) = centPiece (mean l g gate) (zTile l g gate t) := by
  unfold tileAt
  rw [View.readCov_eq_canon']
  funext x
  refine ((dList_at vz l g _ _ (by omega) _ (by omega) x).trans (if_pos (by omega))).trans ?_
  have e : (Fin.ofNat 4 ((10 * gate.val + t.val) / 10)) = gate := Fin.ext (by simp [Fin.ofNat]; omega)
  rw [e]
  congr 1
  funext y
  exact base_tile vz l g gate t y

end Cert.Proof.Model
end
-- ==== Proof.Lane.lean ====
/-
  The kernel's sums over lanes are sums: sublane groups added, then rolled and added.
-/
module

public import proofs.«01_k».proof.Proof.Lookup
public import proofs.«01_k».proof.Proof.Spec
public import Idealize.ShloMosaic.Lib.Pointwise

@[expose] public section

set_option maxRecDepth 16384

noncomputable section

namespace Cert.Proof.Model

open Cert.KernelIdeal Cert.KernelIdeal.Gen Idealize.ShloMosaic Idealize.ShloMosaic.TcCoe Idealize.SL.Sem

theorem sum_tree (f : Fin 128 → EReal) : ∑ i, f i = (((f 0 + f 8 + f 16 + f 24 + f 32 + f 40 + f 48 + f 56 + f 64 + f 72 + f 80 + f 88 + f 96 + f 104 + f 112 + f 120) + (f 4 + f 12 + f 20 + f 28 + f 36 + f 44 + f 52 + f 60 + f 68 + f 76 + f 84 + f 92 + f 100 + f 108 + f 116 + f 124)) + ((f 6 + f 14 + f 22 + f 30 + f 38 + f 46 + f 54 + f 62 + f 70 + f 78 + f 86 + f 94 + f 102 + f 110 + f 118 + f 126) + (f 2 + f 10 + f 18 + f 26 + f 34 + f 42 + f 50 + f 58 + f 66 + f 74 + f 82 + f 90 + f 98 + f 106 + f 114 + f 122))) + (((f 7 + f 15 + f 23 + f 31 + f 39 + f 47 + f 55 + f 63 + f 71 + f 79 + f 87 + f 95 + f 103 + f 111 + f 119 + f 127) + (f 3 + f 11 + f 19 + f 27 + f 35 + f 43 + f 51 + f 59 + f 67 + f 75 + f 83 + f 91 + f 99 + f 107 + f 115 + f 123)) + ((f 5 + f 13 + f 21 + f 29 + f 37 + f 45 + f 53 + f 61 + f 69 + f 77 + f 85 + f 93 + f 101 + f 109 + f 117 + f 125) + (f 1 + f 9 + f 17 + f 25 + f 33 + f 41 + f 49 + f 57 + f 65 + f 73 + f 81 + f 89 + f 97 + f 105 + f 113 + f 121))) := by
  simp only [Fin.sum_univ_ofNat]
  abel

theorem chunk_at (t : FVec Ideal S128x128 .f32) (r : Fin 128) : chunkSum t (ix2 0 r) = ∑ i : Fin 128, t (ix2 i r) := by
  rw [sum_tree]
  unfold chunkSum
  pointwise

theorem lane_at (q : FVec Ideal S256x128 .f32) (b : Fin 256) : laneSum q (ix2 0 b) = ∑ n : Fin 128, q (ix2 b n) := by
  unfold laneSum
  pointwise [chunk_at]
  split
  · rfl
  · rename_i h
    have e : (⟨128 + (b.val - 128), by omega⟩ : Fin 256) = b := Fin.ext (by simp; omega)
    exact Finset.sum_congr rfl fun n _ => congrArg (fun k => q (ix2 k n)) e

/-- The named reciprocal. -/
theorem inv_cell : Named.named (F := Ideal) Cert.KernelIdeal.κ "inv_cell" (φ := .f32) 0x3A4CCCCD#32 = ((1 / 1280 : ℝ) : EReal) :=
  IdealRules.named_const.ideal_named_scalar _ _ _ _ rfl

theorem ofBits_1280 : Spec.c1280 = ((1280 : ℝ) : EReal) := by
  simp [Spec.c1280, Ideal.ofBits, Ideal.ieee]
  rw [← EReal.coe_mul]
  norm_num

/-- A mean is a product with the reciprocal. -/
theorem div_1280 (x : EReal) : x * Named.named (F := Ideal) Cert.KernelIdeal.κ "inv_cell" (φ := .f32) 0x3A4CCCCD#32 = Ideal.div x Spec.c1280 := by
  rw [inv_cell, ofBits_1280, Ideal.div_coe (by norm_num)]

theorem meanCol_at (q : FVec Ideal S256x128 .f32) (b : Fin 256) :
    meanCol q (ix2 b 0) = Ideal.div (∑ n : Fin 128, q (ix2 b n)) Spec.c1280 := by
  rw [← div_1280]
  unfold meanCol meanRow
  pointwise [lane_at]

theorem rstdCol_at (q : FVec Ideal S256x128 .f32) (b : Fin 256) :
    rstdCol q (ix2 b 0) = Ideal.rsqrt (Ideal.div (∑ n : Fin 128, q (ix2 b n)) Spec.c1280 + Spec.cEps) := by
  rw [← div_1280]
  unfold rstdCol meanRow
  pointwise [lane_at]

variable (l : Ld Ideal)

theorem z_at (g : Fin 3) (gate : Fin 4) (j : Fin 5) (b n : Fin 256) : z l g gate j (ix2 b n)
    = (∑ x, l.xt g (ix3 0 b x) * FloatOps.sitofp (F := Ideal) FTy.bf16 (l.wx gate j (ix2 x n))) * l.xs g (ix3 0 0 b) *
        l.wxs gate j (ix2 0 n) +
      (∑ x, l.h g (ix2 b x) * FloatOps.sitofp (F := Ideal) FTy.bf16 (l.wh gate j (ix2 x n))) * l.hs g (ix2 0 b) *
        l.whs gate j (ix2 0 n) := by
  unfold z xcol hcol
  pointwise [k0_pay21, k0_pay18, k0_pay15, k0_pay16, k0_pay17, k0_pay19]

theorem ghOut_at (g : Fin 3) (gate : Fin 4) (p : Fin 80) (b : Fin 256) : ghOut l g gate (ix4 0 0 p b)
    = Scalar.select (IntOp.cmpi CmpIPredicate.sgt (l.nr g (ix2 0 b)) l.t)
      ((∑ x, l.h g (ix2 b x) * FloatOps.sitofp (F := Ideal) FTy.bf16 (l.wh gate 0 (ix2 x ⟨p.val, by omega⟩))) * l.hs g (ix2 0 b) *
        l.whs gate 0 (ix2 0 ⟨p.val, by omega⟩)) 0 := by
  unfold ghOut hcol liveRow
  pointwise [k0_pay20, k0_pay19, k0_pay16, k0_pay472]

theorem accZ_at (g : Fin 3) (gate : Fin 4) (b : Fin 256) (n : Fin 128) : accZ l g gate (ix2 b n)
    = ∑ t : Fin 10, z l g gate ⟨t.val / 2, by omega⟩ (ix2 b ⟨128 * (t.val % 2) + n.val, by omega⟩) := by
  simp only [Fin.sum_univ_ofNat]
  unfold accZ lo hi
  pointwise

theorem zTile_at (g : Fin 3) (gate : Fin 4) (t : Fin 10) (b : Fin 256) (n : Fin 128) :
    zTile l g gate t (ix3 0 b n) = z l g gate ⟨t.val / 2, by omega⟩ (ix2 b ⟨128 * (t.val % 2) + n.val, by omega⟩) := by
  unfold zTile zPiece
  pointwise

theorem cent_at (mu : FVec Ideal S256x1 .f32) (v : Vec Ideal S1x256x128 .f32) (b : Fin 256) (n : Fin 128) :
    cent mu v (ix2 b n) = v (ix3 0 b n) - mu (ix2 b 0) := by
  unfold cent
  pointwise [k0_pay210]

theorem centPiece_at (mu : FVec Ideal S256x1 .f32) (v : Vec Ideal S1x256x128 .f32) (b : Fin 256) (n : Fin 128) :
    centPiece mu v (ix3 0 b n) = v (ix3 0 b n) - mu (ix2 b 0) := by
  unfold centPiece
  pointwise [cent_at]

theorem accD_at (d : Fin 10 → FVec Ideal S256x128 .f32) (b : Fin 256) (n : Fin 128) :
    accD d (ix2 b n) = ∑ t : Fin 10, d t (ix2 b n) * d t (ix2 b n) := by
  simp only [Fin.sum_univ_ofNat]
  unfold accD
  pointwise

theorem zn_at (rs : FVec Ideal S256x1 .f32) (v : Vec Ideal S1x256x128 .f32) (gain bias : Vec Ideal S1x128 .f32)
    (b : Fin 256) (n : Fin 128) :
    zn rs v gain bias (ix2 b n) = v (ix3 0 b n) * rs (ix2 b 0) * gain (ix2 0 n) + bias (ix2 0 n) := by
  unfold zn
  pointwise [k0_pay329]

theorem sig (x : EReal) : Ideal.div 1 (1 + Ideal.exp (0 - x)) = Ideal.logistic x := by
  rw [zero_sub]; rfl

theorem cNew_at (z0 z1 z2 : FVec Ideal S256x128 .f32) (c : Vec Ideal S256x128 .f32) (b : Fin 256) (n : Fin 128) :
    cNew z0 z1 z2 c (ix2 b n) = Spec.clip Spec.cLo Spec.cHi (Ideal.logistic (z1 (ix2 b n)) * c (ix2 b n) +
      Ideal.logistic (z0 (ix2 b n)) * Ideal.tanh (z2 (ix2 b n))) := by
  rw [← sig, ← sig]
  unfold cNew Spec.clip
  pointwise [k0_pay332]

theorem cSel_at (live : IVec S256x1 1) (c : Vec Ideal S256x128 .f32) (cn : FVec Ideal S256x128 .f32) (b : Fin 256) (n : Fin 128) :
    cSel live c cn (ix2 b n) = Scalar.select (live (ix2 b 0)) (cn (ix2 b n)) (c (ix2 b n)) := by
  unfold cSel
  pointwise [k0_pay334]

theorem mul_inv (v s : EReal) (h : s ≠ 0) : v * Ideal.div 1 s = Ideal.div v s := by
  rw [Ideal.div, Ideal.div, if_neg h, if_neg h, one_mul]

theorem mNew_at (ms : EReal) (h : ms ≠ 0) (z0 z1 z2 z3 : FVec Ideal S256x128 .f32) (c : Vec Ideal S256x128 .f32) (b : Fin 256) (n : Fin 128) :
    mNew (k0_pay13 (F := Ideal) ms) z0 z1 z2 z3 c (ix2 b n)
      = Spec.code (Ideal.logistic (z3 (ix2 b n)) * Ideal.tanh (cNew z0 z1 z2 c (ix2 b n))) ms := by
  rw [← sig]
  unfold mNew Spec.code Spec.clip
  rw [← mul_inv _ _ h]
  pointwise [k0_pay13]

theorem liveCol_at (g : Fin 3) (b : Fin 256) : liveCol l g (ix2 b 0) = IntOp.cmpi CmpIPredicate.sgt (l.nc g (ix2 b 0)) l.t := by
  unfold liveCol
  pointwise [k0_pay325]

theorem liveRow_at (g : Fin 3) (b : Fin 256) : liveRow l g (ix2 0 b) = IntOp.cmpi CmpIPredicate.sgt (l.nr g (ix2 0 b)) l.t := by
  unfold liveRow
  pointwise [k0_pay472]

theorem pick (m : Fin 10 → FVec Ideal S256x128 .f32) (b : Fin 256) (t t' : Fin 10) (n n' : Fin 128) (ht : t.val = t'.val)
    (hn : n.val = n'.val) : m t (ix2 b n) = m t' (ix2 b n') := by
  cases Fin.ext ht; cases Fin.ext hn; rfl

set_option maxHeartbeats 2000000 in
theorem hf_at (ms : EReal) (m : Fin 10 → FVec Ideal S256x128 .f32) (wp : Vec Ideal S1280x320 .i8) (wps : Vec Ideal S1x320 .f32)
    (b : Fin 256) (r : Fin 320) : hf ms m wp wps (ix2 b r)
    = (∑ x : Fin 1280, m ⟨x.val / 128, by omega⟩ (ix2 b ⟨x.val % 128, by omega⟩) *
        FloatOps.sitofp (F := Ideal) FTy.bf16 (wp (ix2 x r))) * ms * wps (ix2 0 r) := by
  unfold hf
  pointwise [k0_pay465, k0_pay339]
  congr 3
  funext x
  congr 1
  split_ifs <;> exact pick _ _ _ _ _ _ (by simp <;> omega) (by simp <;> omega)

theorem scale_at (v : FVec Ideal S256x320 .f32) (b : Fin 256) : scale v (ix2 0 b) = Spec.scaleOf fun r => v (ix2 b r) := by
  unfold scale hfT Spec.scaleOf
  pointwise

theorem scaleOf_ne (v : Fin 320 → EReal) : Spec.scaleOf v ≠ 0 := by
  unfold Spec.scaleOf
  have h : Spec.c127 = ((127 : ℝ) : EReal) := by
    simp [Spec.c127, Ideal.ofBits, Ideal.ieee]
    rw [← EReal.coe_mul]
    norm_num
  split
  · exact one_ne_zero
  · rename_i hn
    rw [h, Ideal.div_coe (by norm_num)]
    refine mul_ne_zero hn ?_
    norm_num

theorem code_at (live : IVec S256x1 1) (v : FVec Ideal S256x320 .f32) (h : Vec Ideal S256x320 .bf16) (b : Fin 256) (r : Fin 320) :
    k0_pay469 (F := Ideal) live v (scale v) k0_pay468 h (ix2 b r) = Scalar.select (live (ix2 b 0))
      (Spec.code (v (ix2 b r)) (Spec.scaleOf fun r => v (ix2 b r))) (h (ix2 b r)) := by
  unfold Spec.code Spec.clip
  rw [← mul_inv _ _ (scaleOf_ne _), ← scale_at]
  pointwise [k0_pay469, k0_pay468]

variable {κ' : Kind} {sp' : Space} (vz : ZView κ' sp')

theorem hPiece_at (g : Fin 3) (b : Fin 256) (r : Fin 320) : hPiece vz l g (ix3 0 r b)
    = FloatOps.fptosi (F := Ideal) (φ := .bf16) 8 (hstPiece vz l g (ix2 b r)) := by
  unfold hPiece hstPiece
  pointwise [k0_pay471, k0_pay470]
  rfl

theorem hstPiece_at (g : Fin 3) (b : Fin 256) (r : Fin 320) : hstPiece vz l g (ix2 b r)
    = Scalar.select (IntOp.cmpi CmpIPredicate.sgt (l.nc g (ix2 b 0)) l.t)
      (Spec.code (hfV vz l g (ix2 b r)) (Spec.scaleOf fun r => hfV vz l g (ix2 b r))) (l.hLater g (ix2 b r)) := by
  unfold hstPiece
  pointwise [k0_pay470, code_at, liveCol_at]

theorem sPiece_at (g : Fin 3) (b : Fin 256) : sPiece vz l g (ix3 0 0 b)
    = Scalar.select (IntOp.cmpi CmpIPredicate.sgt (l.nr g (ix2 0 b)) l.t) (Spec.scaleOf fun r => hfV vz l g (ix2 b r))
      (l.hsLater g (ix2 0 b)) := by
  unfold sPiece sS
  pointwise [liveRow_at, scale_at]

theorem sstPiece_at (g : Fin 3) (b : Fin 256) : sstPiece vz l g (ix2 0 b) = sPiece vz l g (ix3 0 0 b) := by
  unfold sPiece sstPiece sS
  pointwise

theorem hfPiece_at (g : Fin 3) (b : Fin 256) (r : Fin 320) : hfPiece vz l g (ix3 0 r b)
    = Scalar.select (IntOp.cmpi CmpIPredicate.sgt (l.nr g (ix2 0 b)) l.t) (hfV vz l g (ix2 b r)) 0 := by
  unfold hfPiece hfT
  pointwise [k0_pay473, k0_pay472]

theorem mPiece_at (g : Fin 3) (t : Fin 10) (b : Fin 256) (n : Fin 128) : mPiece vz l g t (ix3 0 b n)
    = FloatOps.fptosi (F := Ideal) (φ := .f32) 8
      (Scalar.select (IntOp.cmpi CmpIPredicate.sgt (l.nc g (ix2 b 0)) l.t) (mT vz l g t (ix2 b n)) 0) := by
  unfold mPiece
  pointwise [k0_pay338, liveCol_at]

theorem cstPiece_at (g : Fin 3) (t : Fin 10) (b : Fin 256) (n : Fin 128) : cstPiece vz l g t (ix2 b n)
    = Scalar.select (IntOp.cmpi CmpIPredicate.sgt (l.nc g (ix2 b 0)) l.t) (cT vz l g t (ix2 b n)) (l.c g t (ix2 b n)) := by
  unfold cstPiece cS
  pointwise [cSel_at, liveCol_at]

theorem cPiece_at (g : Fin 3) (t : Fin 10) (b : Fin 256) (n : Fin 128) :
    cPiece vz l g t (ix3 0 b n) = cstPiece vz l g t (ix2 b n) := by
  unfold cstPiece cPiece cS
  pointwise

theorem pay14_at (v : Vec Ideal S1x320x256 .i8) (b : Fin 256) (k : Fin 320) :
    k0_pay14 (F := Ideal) v (ix3 0 b k) = FloatOps.sitofp (F := Ideal) FTy.f32 (v (ix3 0 k b)) := by
  pointwise [k0_pay14]

theorem pay5_at (v : Vec Ideal S1x256 .i32) (w : Vec Ideal S320x256 .i8) (b : Fin 256) (k : Fin 320) :
    k0_pay5 (F := Ideal) v w (ix2 b k)
      = Scalar.select (IntOp.cmpi CmpIPredicate.eq (v (ix2 0 b)) 1#32) 0 (FloatOps.sitofp (F := Ideal) FTy.f32 (w (ix2 k b))) := by
  pointwise [k0_pay5]

theorem pay6_at (v : Vec Ideal S256x1 .i32) (w : Vec Ideal S256x1280 .f32) (b : Fin 256) (k : Fin 1280) :
    k0_pay6 (F := Ideal) v w (ix2 b k) = Scalar.select (IntOp.cmpi CmpIPredicate.eq (v (ix2 b 0)) 1#32) 0 (w (ix2 b k)) := by
  pointwise [k0_pay6]

theorem pay4_at (v : Vec Ideal S1x768 .f32) (b : Fin 768) : k0_pay4 (F := Ideal) v (ix2 0 b) = v (ix2 0 b) := by
  pointwise [k0_pay4]

end Cert.Proof.Model
end
-- ==== Proof.Row.lean ====
/-
  What one row of the kernel's body computes, in the words of the layer's mathematics.
-/
module

public import proofs.«01_k».proof.Proof.Lane
public import proofs.«01_k».proof.Proof.Problem

@[expose] public section

set_option maxRecDepth 16384

noncomputable section

namespace Cert.Proof.Model

open Cert.KernelIdeal Cert.KernelIdeal.Gen Idealize.ShloMosaic Idealize.ShloMosaic.TcCoe Idealize.SL.Sem

/-- A cell by its lane tile. -/
abbrev cell (t : Fin 10) (n : Fin 128) : Fin 1280 := ⟨128 * t.val + n.val, by omega⟩
/-- A cell by its column tile. -/
abbrev wide (j : Fin 5) (n : Fin 256) : Fin 1280 := ⟨256 * j.val + n.val, by omega⟩

theorem sum_cells (f : Fin 1280 → EReal) : ∑ n : Fin 128, ∑ t : Fin 10, f (cell t n) = ∑ k, f k := by
  rw [Finset.sum_comm, ← Fintype.sum_prod_type']
  refine Fintype.sum_equiv (finProdFinEquiv (m := 10) (n := 128)) _ _ fun p => congrArg f (Fin.ext ?_)
  show 128 * p.1.val + p.2.val = p.2.val + 128 * p.1.val
  omega

/-- The row reads the given parameters, frame and state. -/
structure Reads (l : Ld Ideal) (W : Spec.Wts) (x : Fin 320 → EReal) (xs : EReal) (st : Spec.St) (cnt : BitVec 32) (g : Fin 3)
    (b : Fin 256) : Prop where
  xt : ∀ k, l.xt g (ix3 0 b k) = x k
  xs : l.xs g (ix3 0 0 b) = xs
  h : ∀ k, l.h g (ix2 b k) = st.h k
  hLater : ∀ k, l.hLater g (ix2 b k) = st.h k
  hs : l.hs g (ix2 0 b) = st.s
  hsLater : l.hsLater g (ix2 0 b) = st.s
  c : ∀ t n, l.c g t (ix2 b n) = st.c (cell t n)
  nr : l.nr g (ix2 0 b) = cnt
  nc : l.nc g (ix2 b 0) = cnt
  wx : ∀ gate j k n, FloatOps.sitofp (F := Ideal) FTy.bf16 (l.wx gate j (ix2 k n)) = W.wx gate (wide j n) k
  wh : ∀ gate j k n, FloatOps.sitofp (F := Ideal) FTy.bf16 (l.wh gate j (ix2 k n)) = W.wh gate (wide j n) k
  wxs : ∀ gate j n, l.wxs gate j (ix2 0 n) = W.wxs gate (wide j n)
  whs : ∀ gate j n, l.whs gate j (ix2 0 n) = W.whs gate (wide j n)
  gain : ∀ gate t n, l.gain gate t (ix2 0 n) = W.gain gate (cell t n)
  bias : ∀ gate t n, l.bias gate t (ix2 0 n) = W.bias gate (cell t n)
  wp : ∀ n r, FloatOps.sitofp (F := Ideal) FTy.bf16 (l.wp (ix2 n r)) = W.wp r n
  wps : ∀ r, l.wps (ix2 0 r) = W.wps r
  ms : l.ms = W.ms
  ms_ne : W.ms ≠ 0

variable {l : Ld Ideal} {W : Spec.Wts} {x : Fin 320 → EReal} {xs : EReal} {st : Spec.St} {cnt : BitVec 32} {g : Fin 3}
  {b : Fin 256} (R : Reads l W x xs st cnt g b)
include R

theorem z_row (gate : Fin 4) (j : Fin 5) (n : Fin 256) : z l g gate j (ix2 b n) = Spec.z W x xs st gate (wide j n) := by
  rw [z_at, R.xs, R.hs, R.wxs, R.whs]
  simp only [R.xt, R.h, R.wx, R.wh]
  rfl

theorem zTile_row (gate : Fin 4) (t : Fin 10) (n : Fin 128) :
    zTile l g gate t (ix3 0 b n) = Spec.z W x xs st gate (cell t n) := by
  rw [zTile_at, z_row R]
  exact congrArg _ (Fin.ext (by show 256 * (t.val / 2) + (128 * (t.val % 2) + n.val) = 128 * t.val + n.val; omega))

theorem mean_row (gate : Fin 4) :
    mean l g gate (ix2 b 0) = Ideal.div (∑ k, Spec.z W x xs st gate k) Spec.c1280 := by
  rw [mean, meanCol_at, ← sum_cells]
  refine congrArg (Ideal.div · _) (Finset.sum_congr rfl fun n _ => ?_)
  rw [accZ_at]
  refine Finset.sum_congr rfl fun t _ => ?_
  rw [z_row R]
  exact congrArg _ (Fin.ext (by show 256 * (t.val / 2) + (128 * (t.val % 2) + n.val) = 128 * t.val + n.val; omega))

theorem cent_row (gate : Fin 4) (t : Fin 10) (n : Fin 128) :
    cent (mean l g gate) (zTile l g gate t) (ix2 b n) = Spec.cent (Spec.z W x xs st gate) (cell t n) := by
  rw [cent_at, zTile_row R, mean_row R]
  rfl

variable {κ' : Kind} {sp' : Space} (vz : ZView κ' sp')

theorem rst_row (gate : Fin 4) : rst vz l g gate (ix2 b 0) = Spec.rstd (Spec.cent (Spec.z W x xs st gate)) := by
  rw [rst, rstdCol_at, Spec.rstd, ← sum_cells]
  refine congrArg (fun q => Ideal.rsqrt (Ideal.div q Spec.c1280 + Spec.cEps)) (Finset.sum_congr rfl fun n _ => ?_)
  rw [accD_at]
  refine Finset.sum_congr rfl fun t _ => ?_
  rw [tile_raw, cent_row R]

theorem znT_row (gate : Fin 4) (t : Fin 10) (n : Fin 128) :
    znT vz l g gate t (ix2 b n) = Spec.zn W x xs st gate (cell t n) := by
  rw [znT, zn_at, tile_cent, centPiece_at, rst_row R, R.gain, R.bias, zTile_row R, mean_row R]
  rfl

theorem cT_row (t : Fin 10) (n : Fin 128) : cT vz l g t (ix2 b n) = Spec.cNew W x xs st (cell t n) := by
  rw [cT, cNew_at, znT_row R, znT_row R, znT_row R, R.c]
  rfl

theorem mT_row (t : Fin 10) (n : Fin 128) : mT vz l g t (ix2 b n) = Spec.m W x xs st (cell t n) := by
  rw [mT, R.ms, mNew_at _ R.ms_ne, znT_row R, Spec.m]
  have := cT_row R vz t n
  rw [cT] at this
  rw [this]

theorem hfV_row (r : Fin 320) : hfV vz l g (ix2 b r) = Spec.hf W x xs st r := by
  rw [hfV, hf_at, R.ms, R.wps, Spec.hf, Spec.hfOf]
  refine congrArg (fun q => q * W.ms * W.wps r) (Finset.sum_congr rfl fun n _ => ?_)
  rw [mT_row R, R.wp]
  exact congrArg (fun q => Spec.m W x xs st q * W.wp r n) (Fin.ext (by show 128 * (n.val / 128) + n.val % 128 = n.val; omega))

theorem hst_row (r : Fin 320) : hstPiece vz l g (ix2 b r) = (Spec.step W x xs st (Spec.alive cnt l.t)).h r := by
  rw [hstPiece_at, R.nc, R.hLater]
  simp only [hfV_row R]
  rfl

theorem s_row : sPiece vz l g (ix3 0 0 b) = (Spec.step W x xs st (Spec.alive cnt l.t)).s := by
  rw [sPiece_at, R.nr, R.hsLater]
  simp only [hfV_row R]
  rfl

theorem hf_row (r : Fin 320) : hfPiece vz l g (ix3 0 r b) = Scalar.select (Spec.alive cnt l.t) (Spec.hf W x xs st r) 0 := by
  rw [hfPiece_at, R.nr, hfV_row R]

theorem m_row (t : Fin 10) (n : Fin 128) : mPiece vz l g t (ix3 0 b n)
    = FloatOps.fptosi (F := Ideal) (φ := .f32) 8 (Scalar.select (Spec.alive cnt l.t) (Spec.m W x xs st (cell t n)) 0) := by
  rw [mPiece_at, R.nc, mT_row R]

theorem cst_row (t : Fin 10) (n : Fin 128) :
    cstPiece vz l g t (ix2 b n) = (Spec.step W x xs st (Spec.alive cnt l.t)).c (cell t n) := by
  rw [cstPiece_at, R.nc, cT_row R, R.c]
  rfl

theorem gh_row (gate : Fin 4) (p : Fin 80) : ghOut l g gate (ix4 0 0 p b)
    = Scalar.select (Spec.alive cnt l.t) (Spec.gh W st gate ⟨p.val, by omega⟩) 0 := by
  rw [ghOut_at, R.nr, R.hs, R.whs]
  simp only [R.h, R.wh]
  refine congrArg (Scalar.select _ · _) ?_
  have e : wide 0 ⟨p.val, by omega⟩ = ⟨p.val, by omega⟩ := Fin.ext (by simp)
  simp only [e]
  rfl

end Cert.Proof.Model
end
-- ==== Proof.Tiles.lean ====
/-
  What the body's results and carried state hold: the tiles of each list read at their entries.
-/
module

public import proofs.«01_k».proof.Proof.Row

@[expose] public section

set_option maxRecDepth 16384

noncomputable section

namespace Cert.Proof.Model

open Cert.KernelIdeal Cert.KernelIdeal.Gen Idealize.ShloMosaic Idealize.ShloMosaic.TcCoe Idealize.SL.Sem

/-- A row by its group. -/
abbrev row (g : Fin 3) (b : Fin 256) : Fin 768 := ⟨256 * g.val + b.val, by omega⟩

theorem row_cover (b : Fin 768) : ∃ g b', b = row g b' :=
  ⟨⟨b.val / 256, by omega⟩, ⟨b.val % 256, by omega⟩, Fin.ext (by show b.val = 256 * (b.val / 256) + b.val % 256; omega)⟩

theorem cell_cover (n : Fin 1280) : ∃ t n', n = cell t n' :=
  ⟨⟨n.val / 128, by omega⟩, ⟨n.val % 128, by omega⟩, Fin.ext (by show n.val = 128 * (n.val / 128) + n.val % 128; omega)⟩

section Canon
variable {Val : EltTy → Type} {s : Shape} {e : EltTy} [∀ e, Nonempty (Val e)]

/-- Off the tiles written over a list, the list reads. -/
theorem canon_off {ι : Type} (r : ι → Rect s) (w : ∀ i, (r i).shape.Idx → Val e) (L : List (View.Piece Val s e)) (y : s.Idx) :
    ∀ ps : List ι, (∀ j ∈ ps, y ∉ (r j).set) →
      View.canon (ps.map (fun j => (⟨r j, w j⟩ : View.Piece Val s e)) ++ L) y = View.canon L y
  | [], _ => rfl
  | p :: ps, h => by
    rw [List.map_cons, List.cons_append, View.canon_cons_of_not_mem _ _ (h p (by simp))]
    exact canon_off r w L y ps fun j hj => h j (by simp [hj])

/-- The same, some of the last tiles not yet written. -/
theorem canon_drop {ι : Type} (r : ι → Rect s) (w : ∀ i, (r i).shape.Idx → Val e) (L : List (View.Piece Val s e)) (y : s.Idx)
    (ps : List ι) (k : Nat) (hk : k ≤ ps.length) (h : ∀ j ∈ ps.drop k, y ∉ (r j).set) :
    View.canon ((ps.map (fun j => (⟨r j, w j⟩ : View.Piece Val s e)) ++ L).drop k) y = View.canon L y := by
  rw [List.drop_append_of_le_length (by simpa using hk), ← List.map_drop]
  exact canon_off r w L y _ h

end Canon

theorem rectC_disjoint (p q : Fin 3 × Fin 10) (h : p ≠ q) : Disjoint (rectC p.1 p.2).set (rectC q.1 q.2).set := by
  by_cases h1 : p.1 = q.1
  · refine Rect.unit_disjoint 2 ?_
    have : p.2.val ≠ q.2.val := fun e => h (Prod.ext h1 (Fin.ext e))
    show 128 * p.2.val + 128 ≤ 128 * q.2.val ∨ 128 * q.2.val + 128 ≤ 128 * p.2.val
    omega
  · refine Rect.unit_disjoint 1 ?_
    have : p.1.val ≠ q.1.val := fun e => h1 (Fin.ext e)
    show 256 * p.1.val + 256 ≤ 256 * q.1.val ∨ 256 * q.1.val + 256 ≤ 256 * p.1.val
    omega

theorem rectCst_disjoint (p q : Fin 3 × Fin 10) (h : p ≠ q) : Disjoint (rectCst p.1 p.2).set (rectCst q.1 q.2).set := by
  by_cases h1 : p.1 = q.1
  · refine Rect.unit_disjoint 1 ?_
    have : p.2.val ≠ q.2.val := fun e => h (Prod.ext h1 (Fin.ext e))
    show 128 * p.2.val + 128 ≤ 128 * q.2.val ∨ 128 * q.2.val + 128 ≤ 128 * p.2.val
    omega
  · refine Rect.unit_disjoint 0 ?_
    have : p.1.val ≠ q.1.val := fun e => h1 (Fin.ext e)
    show 256 * p.1.val + 256 ≤ 256 * q.1.val ∨ 256 * q.1.val + 256 ≤ 256 * p.1.val
    omega

theorem rectG_disjoint (p q : Fin 3 × Fin 4) (h : p ≠ q) : Disjoint (rectG p.1 p.2).set (rectG q.1 q.2).set := by
  by_cases h1 : p.1 = q.1
  · refine Rect.unit_disjoint 1 ?_
    have : p.2.val ≠ q.2.val := fun e => h (Prod.ext h1 (Fin.ext e))
    show p.2.val + 1 ≤ q.2.val ∨ q.2.val + 1 ≤ p.2.val
    omega
  · refine Rect.unit_disjoint 3 ?_
    have : p.1.val ≠ q.1.val := fun e => h1 (Fin.ext e)
    show 256 * p.1.val + 256 ≤ 256 * q.1.val ∨ 256 * q.1.val + 256 ≤ 256 * p.1.val
    omega

theorem apart (p q : Fin 3) (h : p ≠ q) : 256 * p.val + 256 ≤ 256 * q.val ∨ 256 * q.val + 256 ≤ 256 * p.val := by
  have : p.val ≠ q.val := fun e => h (Fin.ext e)
  omega

theorem rectH_disjoint (p q : Fin 3) (h : p ≠ q) : Disjoint (rectH p).set (rectH q).set := Rect.unit_disjoint 2 (apart p q h)
theorem rectS_disjoint (p q : Fin 3) (h : p ≠ q) : Disjoint (rectS p).set (rectS q).set := Rect.unit_disjoint 2 (apart p q h)
theorem rectHst_disjoint (p q : Fin 3) (h : p ≠ q) : Disjoint (rectHst p).set (rectHst q).set := Rect.unit_disjoint 0 (apart p q h)
theorem rectSst_disjoint (p q : Fin 3) (h : p ≠ q) : Disjoint (rectSst p).set (rectSst q).set := Rect.unit_disjoint 1 (apart p q h)
theorem rectC0_disjoint (p q : Fin 3) (h : p ≠ q) : Disjoint (rectC0 p).set (rectC0 q).set := Rect.unit_disjoint 0 (apart p q h)

theorem tilesC_mem (p : Fin 3 × Fin 10) : p ∈ tilesC := by revert p; decide
theorem tilesG_mem (p : Fin 3 × Fin 4) : p ∈ tilesG := by revert p; decide
theorem tilesR_mem (p : Fin 3) : p ∈ tilesR := by revert p; decide

theorem emb_C (g : Fin 3) (t : Fin 10) (b : Fin 256) (n : Fin 128) : (rectC g t).emb (ix3 0 b n) = ix3 0 (row g b) (cell t n) := by
  funext a; apply Fin.ext
  match a with
  | ⟨0, _⟩ => rfl
  | ⟨1, _⟩ => show 256 * g.val + 1 * b.val = 256 * g.val + b.val; omega
  | ⟨2, _⟩ => show 128 * t.val + 1 * n.val = 128 * t.val + n.val; omega

theorem emb_Cst (g : Fin 3) (t : Fin 10) (b : Fin 256) (n : Fin 128) : (rectCst g t).emb (ix2 b n) = ix2 (row g b) (cell t n) := by
  funext a; apply Fin.ext
  match a with
  | ⟨0, _⟩ => show 256 * g.val + 1 * b.val = 256 * g.val + b.val; omega
  | ⟨1, _⟩ => show 128 * t.val + 1 * n.val = 128 * t.val + n.val; omega

theorem emb_G (g : Fin 3) (gate : Fin 4) (p : Fin 80) (b : Fin 256) : (rectG g gate).emb (ix4 0 0 p b) = ix4 0 gate p (row g b) := by
  funext a; apply Fin.ext
  match a with
  | ⟨0, _⟩ => rfl
  | ⟨1, _⟩ => show gate.val + 1 * 0 = gate.val; omega
  | ⟨2, _⟩ => show 0 + 1 * p.val = p.val; omega
  | ⟨3, _⟩ => show 256 * g.val + 1 * b.val = 256 * g.val + b.val; omega

theorem emb_H (g : Fin 3) (r : Fin 320) (b : Fin 256) : (rectH g).emb (ix3 0 r b) = ix3 0 r (row g b) := by
  funext a; apply Fin.ext
  match a with
  | ⟨0, _⟩ => rfl
  | ⟨1, _⟩ => show 0 + 1 * r.val = r.val; omega
  | ⟨2, _⟩ => show 256 * g.val + 1 * b.val = 256 * g.val + b.val; omega

theorem emb_S (g : Fin 3) (b : Fin 256) : (rectS g).emb (ix3 0 0 b) = ix3 0 0 (row g b) := by
  funext a; apply Fin.ext
  match a with
  | ⟨0, _⟩ => rfl
  | ⟨1, _⟩ => rfl
  | ⟨2, _⟩ => show 256 * g.val + 1 * b.val = 256 * g.val + b.val; omega

theorem emb_Hst (g : Fin 3) (r : Fin 320) (b : Fin 256) : (rectHst g).emb (ix2 b r) = ix2 (row g b) r := by
  funext a; apply Fin.ext
  match a with
  | ⟨0, _⟩ => show 256 * g.val + 1 * b.val = 256 * g.val + b.val; omega
  | ⟨1, _⟩ => show 0 + 1 * r.val = r.val; omega

theorem emb_Sst (g : Fin 3) (b : Fin 256) : (rectSst g).emb (ix2 0 b) = ix2 0 (row g b) := by
  funext a; apply Fin.ext
  match a with
  | ⟨0, _⟩ => rfl
  | ⟨1, _⟩ => show 256 * g.val + 1 * b.val = 256 * g.val + b.val; omega

variable {κ' : Kind} {sp' : Space} (vz : ZView κ' sp') (l : Ld Ideal)

theorem canon_h (g : Fin 3) (b : Fin 256) (r : Fin 320) (L : List (View.Piece (Elt Ideal) S1x320x768 .i8)) :
    View.canon (hL vz l ++ L) (ix3 0 r (row g b)) = hPiece vz l g (ix3 0 r b) := by
  rw [← emb_H]
  exact canon_tiles rectH (hPiece vz l) L g _ (fun j h => rectH_disjoint j g h) tilesR (tilesR_mem g)

theorem canon_s (g : Fin 3) (b : Fin 256) (L : List (View.Piece (Elt Ideal) S1x1x768 .f32)) :
    View.canon (sL vz l ++ L) (ix3 0 0 (row g b)) = sPiece vz l g (ix3 0 0 b) := by
  rw [← emb_S]
  exact canon_tiles rectS (sPiece vz l) L g _ (fun j h => rectS_disjoint j g h) tilesR (tilesR_mem g)

theorem canon_hf (g : Fin 3) (b : Fin 256) (r : Fin 320) (L : List (View.Piece (Elt Ideal) S1x320x768 .f32)) :
    View.canon (hfL vz l ++ L) (ix3 0 r (row g b)) = hfPiece vz l g (ix3 0 r b) := by
  rw [← emb_H]
  exact canon_tiles rectH (hfPiece vz l) L g _ (fun j h => rectH_disjoint j g h) tilesR (tilesR_mem g)

theorem canon_gh (g : Fin 3) (gate : Fin 4) (p : Fin 80) (b : Fin 256) (L : List (View.Piece (Elt Ideal) S1x4x80x768 .f32)) :
    View.canon (ghL l ++ L) (ix4 0 gate p (row g b)) = ghOut l g gate (ix4 0 0 p b) := by
  have e := canon_tiles (fun q : Fin 3 × Fin 4 => rectG q.1 q.2) (fun q => ghOut l q.1 q.2) L (g, gate) (ix4 0 0 p b)
    (fun j h => rectG_disjoint j (g, gate) h) tilesG (tilesG_mem _)
  rw [← emb_G]
  unfold ghL
  exact e

theorem canon_m (g : Fin 3) (t : Fin 10) (b : Fin 256) (n : Fin 128) (L : List (View.Piece (Elt Ideal) S1x768x1280 .i8)) :
    View.canon (mL vz l ++ L) (ix3 0 (row g b) (cell t n)) = mPiece vz l g t (ix3 0 b n) := by
  rw [← emb_C]
  exact canon_tiles (fun q : Fin 3 × Fin 10 => rectC q.1 q.2) (fun q => mPiece vz l q.1 q.2) L (g, t) _
    (fun j h => rectC_disjoint j (g, t) h) tilesC (tilesC_mem _)

theorem canon_c (g : Fin 3) (t : Fin 10) (b : Fin 256) (n : Fin 128) (L : List (View.Piece (Elt Ideal) S1x768x1280 .f32)) :
    View.canon (cL vz l ++ L) (ix3 0 (row g b) (cell t n)) = cPiece vz l g t (ix3 0 b n) := by
  rw [← emb_C]
  exact canon_tiles (fun q : Fin 3 × Fin 10 => rectC q.1 q.2) (fun q => cPiece vz l q.1 q.2) L (g, t) _
    (fun j h => rectC_disjoint j (g, t) h) tilesC (tilesC_mem _)

theorem canon_hst (g : Fin 3) (b : Fin 256) (r : Fin 320) (L : List (View.Piece (Elt Ideal) S768x320 .bf16)) :
    View.canon (hstL vz l ++ L) (ix2 (row g b) r) = hstPiece vz l g (ix2 b r) := by
  rw [← emb_Hst]
  exact canon_tiles rectHst (hstPiece vz l) L g _ (fun j h => rectHst_disjoint j g h) tilesR (tilesR_mem g)

theorem canon_sst (g : Fin 3) (b : Fin 256) (L : List (View.Piece (Elt Ideal) S1x768 .f32)) :
    View.canon (sstL vz l ++ L) (ix2 0 (row g b)) = sstPiece vz l g (ix2 0 b) := by
  rw [← emb_Sst]
  exact canon_tiles rectSst (sstPiece vz l) L g _ (fun j h => rectSst_disjoint j g h) tilesR (tilesR_mem g)

theorem canon_cst (g : Fin 3) (t : Fin 10) (b : Fin 256) (n : Fin 128) (L : List (View.Piece (Elt Ideal) S768x1280 .f32)) :
    View.canon (cstL vz l ++ L) (ix2 (row g b) (cell t n)) = cstPiece vz l g t (ix2 b n) := by
  rw [← emb_Cst]
  exact canon_tiles (fun q : Fin 3 × Fin 10 => rectCst q.1 q.2) (fun q => cstPiece vz l q.1 q.2) L (g, t) _
    (fun j h => rectCst_disjoint j (g, t) h) tilesC (tilesC_mem _)

/-- What a step leaves: six results and the carried state. -/
abbrev Left : Type := Vec Ideal S1x320x768 .i8 × Vec Ideal S1x1x768 .f32 × Vec Ideal S1x320x768 .f32 × Vec Ideal S1x4x80x768 .f32 ×
  Vec Ideal S1x768x1280 .i8 × Vec Ideal S1x768x1280 .f32 × Vec Ideal S768x320 .bf16 × Vec Ideal S1x768 .f32 × Vec Ideal S768x1280 .f32

/-- The row carried. -/
def carried (v : Left) (b : Fin 768) : Spec.St where
  h r := v.2.2.2.2.2.2.1 (ix2 b r)
  s := v.2.2.2.2.2.2.2.1 (ix2 0 b)
  c n := v.2.2.2.2.2.2.2.2 (ix2 b n)

/-- A step leaves the layer's results and the next state. -/
structure After (A : Spec.Args) (t : Nat) (v : Left) : Prop where
  h : ∀ r b, v.1 (ix3 0 r b) = A.outH t r b
  s : ∀ b, v.2.1 (ix3 0 0 b) = A.outS t b
  hf : ∀ r b, v.2.2.1 (ix3 0 r b) = A.outHf t r b
  gh : ∀ g p b, v.2.2.2.1 (ix4 0 g p b) = A.outGh t g p b
  m : ∀ b n, v.2.2.2.2.1 (ix3 0 b n) = A.outM t b n
  c : ∀ b n, v.2.2.2.2.2.1 (ix3 0 b n) = A.outC t b n
  st : ∀ b, carried v b = A.state b (t + 1)

/-- The row's loads are the layer's inputs and the row's state. -/
abbrev RowReads (A : Spec.Args) (t : Nat) (l : Ld Ideal) (g : Fin 3) (b : Fin 256) : Prop :=
  Reads l A.W (A.frame (row g b) t) (A.frameS (row g b) t) (A.state (row g b) t) (A.n (row g b)) g b

theorem after_of (A : Spec.Args) (t : Nat) (R : ∀ g b, RowReads A t l g b) (ht : l.t = BitVec.ofNat 32 t)
    (L0 : List (View.Piece (Elt Ideal) S1x320x768 .i8)) (L1 : List (View.Piece (Elt Ideal) S1x1x768 .f32))
    (L2 : List (View.Piece (Elt Ideal) S1x320x768 .f32)) (L3 : List (View.Piece (Elt Ideal) S1x4x80x768 .f32))
    (L4 : List (View.Piece (Elt Ideal) S1x768x1280 .i8)) (L5 : List (View.Piece (Elt Ideal) S1x768x1280 .f32))
    (Lh : List (View.Piece (Elt Ideal) S768x320 .bf16)) (Ls : List (View.Piece (Elt Ideal) S1x768 .f32))
    (Lc : List (View.Piece (Elt Ideal) S768x1280 .f32)) :
    After A t (View.canon (hL vz l ++ L0), View.canon (sL vz l ++ L1), View.canon (hfL vz l ++ L2), View.canon (ghL l ++ L3),
      View.canon (mL vz l ++ L4), View.canon (cL vz l ++ L5), View.canon (hstL vz l ++ Lh), View.canon (sstL vz l ++ Ls),
      View.canon (cstL vz l ++ Lc)) where
  h r b := by
    obtain ⟨g, b, rfl⟩ := row_cover b
    dsimp only
    rw [canon_h, hPiece_at, hst_row (R g b), ht]
    rfl
  s b := by
    obtain ⟨g, b, rfl⟩ := row_cover b
    dsimp only
    rw [canon_s, s_row (R g b), ht]
    rfl
  hf r b := by
    obtain ⟨g, b, rfl⟩ := row_cover b
    dsimp only
    rw [canon_hf, hf_row (R g b), ht]
    rfl
  gh gate p b := by
    obtain ⟨g, b, rfl⟩ := row_cover b
    dsimp only
    rw [canon_gh, gh_row (R g b), ht]
    rfl
  m b n := by
    obtain ⟨g, b, rfl⟩ := row_cover b
    obtain ⟨t', n, rfl⟩ := cell_cover n
    dsimp only
    rw [canon_m, m_row (R g b), ht]
    rfl
  c b n := by
    obtain ⟨g, b, rfl⟩ := row_cover b
    obtain ⟨t', n, rfl⟩ := cell_cover n
    dsimp only
    rw [canon_c, cPiece_at, cst_row (R g b), ht]
    rfl
  st b := by
    obtain ⟨g, b, rfl⟩ := row_cover b
    refine Spec.St.ext (funext fun r => ?_) ?_ (funext fun n => ?_)
    · show View.canon (hstL vz l ++ _) _ = _
      rw [canon_hst, hst_row (R g b), ht]
      rfl
    · show View.canon (sstL vz l ++ _) _ = _
      rw [canon_sst, sstPiece_at, s_row (R g b), ht]
      rfl
    · obtain ⟨t', n, rfl⟩ := cell_cover n
      show View.canon (cstL vz l ++ _) _ = _
      rw [canon_cst, cst_row (R g b), ht]
      rfl

end Cert.Proof.Model
end
-- ==== Proof.Loads.lean ====
/-
  The body's loads, from the memory's blocks to the layer's inputs.
-/
module

public import proofs.«01_k».proof.Proof.Tiles
public import Idealize.ShloMosaic.Lib.WholeRead

@[expose] public section

set_option maxRecDepth 16384

noncomputable section

namespace Cert.Proof.Model

open Cert.KernelIdeal Cert.KernelIdeal.Gen Idealize.ShloMosaic Idealize.ShloMosaic.TcCoe Idealize.SL.Sem

/-- The blocks hold the layer's inputs at a step. -/
structure Blocks (A : Spec.Args) (t : Nat) (x0 : Vec Ideal S1x320x768 .i8) (x1 : Vec Ideal S1x1x768 .f32) (x2 : Vec Ideal S1x768 .i32)
    (x5 : Vec Ideal S768x1 .i32) (x6 : Vec Ideal S320x5120 .i8) (x7 : Vec Ideal S1x5120 .f32) (x8 : Vec Ideal S320x5120 .i8)
    (x9 x10 x11 : Vec Ideal S1x5120 .f32) (x12 : Vec Ideal S1280x320 .i8) (x13 : Vec Ideal S1x320 .f32)
    (x14 : Vec Ideal S1x1 .f32) : Prop where
  x : ∀ k b, x0 (ix3 0 k b) = A.x b (Fin.ofNat 64 t) k
  xs : ∀ b, x1 (ix3 0 0 b) = A.xs b (Fin.ofNat 64 t)
  nr : ∀ b, x2 (ix2 0 b) = A.n b
  nc : ∀ b, x5 (ix2 b 0) = A.n b
  wx : ∀ k n, x6 (ix2 k n) = A.wx n k
  wxs : ∀ n, x7 (ix2 0 n) = A.wxs n
  wh : ∀ k n, x8 (ix2 k n) = A.wh n k
  whs : ∀ n, x9 (ix2 0 n) = A.whs n
  gain : ∀ g n, x10 (ix2 0 (Spec.stacked g n)) = A.gain g n
  bias : ∀ g n, x11 (ix2 0 (Spec.stacked g n)) = A.bias g n
  wp : ∀ n r, x12 (ix2 n r) = A.wp r n
  wps : ∀ r, x13 (ix2 0 r) = A.wps r
  ms : x14 (ix2 0 0) = A.ms

/-- The memory's loads are the layer's inputs at a step. -/
structure MemReads (A : Spec.Args) (t : Nat) (M : Mem Ideal) : Prop where
  x : ∀ g k b, M.x (rectH g).toLoadRect (ix3 0 k b) = A.x (row g b) (Fin.ofNat 64 t) k
  xs : ∀ g b, M.xs (rectS g).toLoadRect (ix3 0 0 b) = A.xs (row g b) (Fin.ofNat 64 t)
  nr : ∀ g b, M.nr (rectSst g).toLoadRect (ix2 0 b) = A.n (row g b)
  nc : ∀ g b, M.nc (rectNc g).toLoadRect (ix2 b 0) = A.n (row g b)
  wx : ∀ gate j k n, M.wx (rectW gate j).toLoadRect (ix2 k n) = A.wx (Spec.stacked gate (wide j n)) k
  wxs : ∀ gate j n, M.wxs (rectWs gate j).toLoadRect (ix2 0 n) = A.wxs (Spec.stacked gate (wide j n))
  wh : ∀ gate j k n, M.wh (rectW gate j).toLoadRect (ix2 k n) = A.wh (Spec.stacked gate (wide j n)) k
  whs : ∀ gate j n, M.whs (rectWs gate j).toLoadRect (ix2 0 n) = A.whs (Spec.stacked gate (wide j n))
  gain : ∀ gate t' n, M.gain (rectGb gate t').toLoadRect (ix2 0 n) = A.gain gate (cell t' n)
  bias : ∀ gate t' n, M.bias (rectGb gate t').toLoadRect (ix2 0 n) = A.bias gate (cell t' n)
  wp : ∀ n r, M.wp rectWp.toLoadRect (ix2 n r) = A.wp r n
  wps : ∀ r, M.wps rectWps.toLoadRect (ix2 0 r) = A.wps r
  ms : M.ms = A.ms

theorem idx_Nc (g : Fin 3) (b : Fin 256) : (rectNc g).toLoadRect.idx (ix2 b 0) = ix2 (row g b) 0 := by
  funext a; apply Fin.ext
  match a with
  | ⟨0, _⟩ => show 256 * g.val + 1 * b.val = 256 * g.val + b.val; omega
  | ⟨1, _⟩ => rfl

theorem idx_W (gate : Fin 4) (j : Fin 5) (k : Fin 320) (n : Fin 256) :
    (rectW gate j).toLoadRect.idx (ix2 k n) = ix2 k (Spec.stacked gate (wide j n)) := by
  funext a; apply Fin.ext
  match a with
  | ⟨0, _⟩ => show 0 + 1 * k.val = k.val; omega
  | ⟨1, _⟩ => show 1280 * gate.val + 256 * j.val + 1 * n.val = 1280 * gate.val + (256 * j.val + n.val); omega

theorem idx_Ws (gate : Fin 4) (j : Fin 5) (n : Fin 256) :
    (rectWs gate j).toLoadRect.idx (ix2 0 n) = ix2 0 (Spec.stacked gate (wide j n)) := by
  funext a; apply Fin.ext
  match a with
  | ⟨0, _⟩ => rfl
  | ⟨1, _⟩ => show 1280 * gate.val + 256 * j.val + 1 * n.val = 1280 * gate.val + (256 * j.val + n.val); omega

theorem idx_Gb (gate : Fin 4) (t : Fin 10) (n : Fin 128) :
    (rectGb gate t).toLoadRect.idx (ix2 0 n) = ix2 0 (Spec.stacked gate (cell t n)) := by
  funext a; apply Fin.ext
  match a with
  | ⟨0, _⟩ => rfl
  | ⟨1, _⟩ => show 1280 * gate.val + 128 * t.val + 1 * n.val = 1280 * gate.val + (128 * t.val + n.val); omega

theorem idx_Wp (n : Fin 1280) (r : Fin 320) : rectWp.toLoadRect.idx (ix2 n r) = ix2 n r := by
  funext a; apply Fin.ext
  match a with
  | ⟨0, _⟩ => show 0 + 1 * n.val = n.val; omega
  | ⟨1, _⟩ => show 0 + 1 * r.val = r.val; omega

theorem idx_Wps (r : Fin 320) : rectWps.toLoadRect.idx (ix2 0 r) = ix2 0 r := by
  funext a; apply Fin.ext
  match a with
  | ⟨0, _⟩ => rfl
  | ⟨1, _⟩ => show 0 + 1 * r.val = r.val; omega

/-- Loads through whole buffers that hold the blocks. -/
theorem memReads (arg1 : Memref Cert.KernelIdeal.sig .tc .vmem S1x320x768 .i8) (harg1 : arg1.IsWhole) (arg2 : Memref Cert.KernelIdeal.sig .tc .vmem S1x1x768 .f32) (harg2 : arg2.IsWhole) (arg3 : Memref Cert.KernelIdeal.sig .tc .vmem S1x768 .i32) (harg3 : arg3.IsWhole) (arg6 : Memref Cert.KernelIdeal.sig .tc .vmem S768x1 .i32) (harg6 : arg6.IsWhole) (arg7 : Memref Cert.KernelIdeal.sig .tc .vmem S320x5120 .i8) (harg7 : arg7.IsWhole) (arg8 : Memref Cert.KernelIdeal.sig .tc .vmem S1x5120 .f32) (harg8 : arg8.IsWhole) (arg9 : Memref Cert.KernelIdeal.sig .tc .vmem S320x5120 .i8) (harg9 : arg9.IsWhole) (arg10 : Memref Cert.KernelIdeal.sig .tc .vmem S1x5120 .f32) (harg10 : arg10.IsWhole) (arg11 : Memref Cert.KernelIdeal.sig .tc .vmem S1x5120 .f32) (harg11 : arg11.IsWhole) (arg12 : Memref Cert.KernelIdeal.sig .tc .vmem S1x5120 .f32) (harg12 : arg12.IsWhole) (arg13 : Memref Cert.KernelIdeal.sig .tc .vmem S1280x320 .i8) (harg13 : arg13.IsWhole) (arg14 : Memref Cert.KernelIdeal.sig .tc .vmem S1x320 .f32) (harg14 : arg14.IsWhole) (arg15 : Memref Cert.KernelIdeal.sig .tc .smem S1x1 .f32) (harg15 : arg15.IsWhole)
    {A : Spec.Args} {t : Nat} {x0 x1 x2 x5 x6 x7 x8 x9 x10 x11 x12 x13 x14} (B : Blocks A t x0 x1 x2 x5 x6 x7 x8 x9 x10 x11 x12 x13 x14) (t' : BitVec 32)
    (h : ∀ r : LoadRect S768x320, r.shape.Idx → Elt Ideal .bf16) (hs : ∀ r : LoadRect S1x768, r.shape.Idx → Elt Ideal .f32)
    (c : ∀ r : LoadRect S768x1280, r.shape.Idx → Elt Ideal .f32) :
    MemReads A t
      { x := fun r => View.readAt (Elt Ideal) arg1.view r (harg1.unread x0)
        xs := fun r => View.readAt (Elt Ideal) arg2.view r (harg2.unread x1)
        nr := fun r => View.readAt (Elt Ideal) arg3.view r (harg3.unread x2)
        nc := fun r => View.readAt (Elt Ideal) arg6.view r (harg6.unread x5)
        wx := fun r => View.readAt (Elt Ideal) arg7.view r (harg7.unread x6)
        wxs := fun r => View.readAt (Elt Ideal) arg8.view r (harg8.unread x7)
        wh := fun r => View.readAt (Elt Ideal) arg9.view r (harg9.unread x8)
        whs := fun r => View.readAt (Elt Ideal) arg10.view r (harg10.unread x9)
        gain := fun r => View.readAt (Elt Ideal) arg11.view r (harg11.unread x10)
        bias := fun r => View.readAt (Elt Ideal) arg12.view r (harg12.unread x11)
        wp := fun r => View.readAt (Elt Ideal) arg13.view r (harg13.unread x12)
        wps := fun r => View.readAt (Elt Ideal) arg14.view r (harg14.unread x13)
        ms := View.readAt (Elt Ideal) arg15.view (Rect.unit ![0, 0] S1x1.size inb_S1x1_S1x1_0_0).toLoadRect (harg15.unread x14)
          (Shape.Idx.first (by decide))
        t := t', h := h, hs := hs, c := c } where
  x g k b := (harg1.readAt_unread x0 _ _).trans ((congrArg x0 (emb_H g k b)).trans (B.x _ _))
  xs g b := (harg2.readAt_unread x1 _ _).trans ((congrArg x1 (emb_S g b)).trans (B.xs _))
  nr g b := (harg3.readAt_unread x2 _ _).trans ((congrArg x2 (emb_Sst g b)).trans (B.nr _))
  nc g b := (harg6.readAt_unread x5 _ _).trans ((congrArg x5 (idx_Nc g b)).trans (B.nc _))
  wx gate j k n := (harg7.readAt_unread x6 _ _).trans ((congrArg x6 (idx_W gate j k n)).trans (B.wx _ _))
  wxs gate j n := (harg8.readAt_unread x7 _ _).trans ((congrArg x7 (idx_Ws gate j n)).trans (B.wxs _))
  wh gate j k n := (harg9.readAt_unread x8 _ _).trans ((congrArg x8 (idx_W gate j k n)).trans (B.wh _ _))
  whs gate j n := (harg10.readAt_unread x9 _ _).trans ((congrArg x9 (idx_Ws gate j n)).trans (B.whs _))
  gain gate t' n := (harg11.readAt_unread x10 _ _).trans ((congrArg x10 (idx_Gb gate t' n)).trans (B.gain _ _))
  bias gate t' n := (harg12.readAt_unread x11 _ _).trans ((congrArg x11 (idx_Gb gate t' n)).trans (B.bias _ _))
  wp n r := (harg13.readAt_unread x12 _ _).trans ((congrArg x12 (idx_Wp n r)).trans (B.wp _ _))
  wps r := (harg14.readAt_unread x13 _ _).trans ((congrArg x13 (idx_Wps r)).trans (B.wps _))
  ms := (harg15.readAt_unread x14 _ _).trans ((congrArg x14 (by
    funext a; apply Fin.ext
    match a with
    | ⟨0, _⟩ => rfl
    | ⟨1, _⟩ => rfl)).trans B.ms)

/-- The frame's codes, through the scratch that holds them transposed. -/
theorem xt_reads {A : Spec.Args} {t : Nat} {M : Mem Ideal} (H : MemReads A t M) {κ' : Kind} {sp' : Space}
    (vx : View Cert.KernelIdeal.sig κ' sp' S1x256x320 .bf16) (g : Fin 3) (b : Fin 256) (k : Fin 320) :
    (ofMem vx M).xt g (ix3 0 b k) = A.frame (row g b) t k := by
  have e : (ofMem vx M).xt g = k0_pay14 (M.x (rectH g).toLoadRect) := by
    match g with
    | 0 => exact View.readCov_cons_toLoadRect vx rectX _ _
    | 1 => exact View.readCov_cons_toLoadRect vx rectX _ _
    | 2 => exact View.readCov_cons_toLoadRect vx rectX _ _
  exact (congrFun e _).trans ((pay14_at _ b k).trans (congrArg Spec.num (H.x g k b)))

/-- The row's loads, once the carried state's are known. -/
theorem reads_of {A : Spec.Args} {t : Nat} {M : Mem Ideal} (H : MemReads A t M) (hms : A.ms ≠ 0) {κ' : Kind} {sp' : Space}
    (vx : View Cert.KernelIdeal.sig κ' sp' S1x256x320 .bf16) (h hL : Fin 3 → Vec Ideal S256x320 .bf16) (hs hsL : Fin 3 → Vec Ideal S1x256 .f32)
    (cc : Fin 3 → Fin 10 → Vec Ideal S256x128 .f32) (g : Fin 3) (b : Fin 256)
    (e0 : ∀ k, h g (ix2 b k) = (A.state (row g b) t).h k) (e1 : ∀ k, hL g (ix2 b k) = (A.state (row g b) t).h k)
    (e2 : hs g (ix2 0 b) = (A.state (row g b) t).s) (e3 : hsL g (ix2 0 b) = (A.state (row g b) t).s)
    (e4 : ∀ t' n, cc g t' (ix2 b n) = (A.state (row g b) t).c (cell t' n)) :
    RowReads A t { ofMem vx M with c := cc, h := h, hs := hs, hLater := hL, hsLater := hsL } g b where
  xt k := xt_reads H vx g b k
  xs := H.xs g b
  h := e0
  hLater := e1
  hs := e2
  hsLater := e3
  c := e4
  nr := H.nr g b
  nc := H.nc g b
  wx gate j k n := congrArg Spec.num (H.wx gate j k n)
  wh gate j k n := congrArg Spec.num (H.wh gate j k n)
  wxs := H.wxs
  whs := H.whs
  gain := H.gain
  bias := H.bias
  wp n r := congrArg Spec.num (H.wp n r)
  wps := H.wps
  ms := H.ms
  ms_ne := hms

/-- The same, the carried state read from the memory too. -/
theorem reads_mem {A : Spec.Args} {t : Nat} {M : Mem Ideal} (H : MemReads A t M) (hms : A.ms ≠ 0) {κ' : Kind} {sp' : Space}
    (vx : View Cert.KernelIdeal.sig κ' sp' S1x256x320 .bf16) (g : Fin 3) (b : Fin 256)
    (e0 : ∀ k, M.h (rectHst g).toLoadRect (ix2 b k) = (A.state (row g b) t).h k)
    (e2 : M.hs (rectSst g).toLoadRect (ix2 0 b) = (A.state (row g b) t).s)
    (e4 : ∀ t' n, M.c (rectCst g t').toLoadRect (ix2 b n) = (A.state (row g b) t).c (cell t' n)) :
    RowReads A t (ofMem vx M) g b :=
  reads_of H hms vx (fun g => M.h (rectHst g).toLoadRect) (fun g => M.h (rectHst g).toLoadRect) (fun g => M.hs (rectSst g).toLoadRect)
    (fun g => M.hs (rectSst g).toLoadRect) (fun g t' => M.c (rectCst g t').toLoadRect) g b e0 e0 e2 e2 e4

end Cert.Proof.Model
end
-- ==== Proof.MatchA.lean ====
/-
  The kernel's body at the first step: the lists of its writes are the model's.
-/
module

public import proofs.«01_k».proof.Proof.Gen.KernelIdeal.Frame.RunA
public import proofs.«01_k».proof.Proof.Lists

@[expose] public section

set_option maxRecDepth 100000

noncomputable section

namespace Cert.Proof.Model

open Cert.KernelIdeal Cert.KernelIdeal.Gen Idealize.ShloMosaic Idealize.ShloMosaic.TcCoe Idealize.SL.Sem
  Idealize.ShloMosaic.Tactic

variable {F : FTy → Type} [FloatOps F] [Named F]

variable (c : Dev nD) (i : grid0.Coords) (arg1 : Memref sig .tc .vmem S1x320x768 .i8) (harg1 : arg1.IsWhole) (arg2 : Memref sig .tc .vmem S1x1x768 .f32) (harg2 : arg2.IsWhole) (arg3 : Memref sig .tc .vmem S1x768 .i32) (harg3 : arg3.IsWhole) (arg4 : Memref sig .tc .vmem S1x768 .i32) (harg4 : arg4.IsWhole) (arg5 : Memref sig .tc .vmem S768x1 .i32) (harg5 : arg5.IsWhole) (arg6 : Memref sig .tc .vmem S768x1 .i32) (harg6 : arg6.IsWhole) (arg7 : Memref sig .tc .vmem S320x5120 .i8) (harg7 : arg7.IsWhole) (arg8 : Memref sig .tc .vmem S1x5120 .f32) (harg8 : arg8.IsWhole) (arg9 : Memref sig .tc .vmem S320x5120 .i8) (harg9 : arg9.IsWhole) (arg10 : Memref sig .tc .vmem S1x5120 .f32) (harg10 : arg10.IsWhole) (arg11 : Memref sig .tc .vmem S1x5120 .f32) (harg11 : arg11.IsWhole) (arg12 : Memref sig .tc .vmem S1x5120 .f32) (harg12 : arg12.IsWhole) (arg13 : Memref sig .tc .vmem S1280x320 .i8) (harg13 : arg13.IsWhole) (arg14 : Memref sig .tc .vmem S1x320 .f32) (harg14 : arg14.IsWhole) (arg15 : Memref sig .tc .smem S1x1 .f32) (harg15 : arg15.IsWhole) (arg16 : Memref sig .tc .vmem S320x768 .i8) (harg16 : arg16.IsWhole) (arg17 : Memref sig .tc .vmem S1x768 .f32) (harg17 : arg17.IsWhole) (arg18 : Memref sig .tc .vmem S768x1280 .f32) (harg18 : arg18.IsWhole) (arg19 : Memref sig .tc .vmem S1x320x768 .i8) (harg19 : arg19.IsWhole) (arg20 : Memref sig .tc .vmem S1x1x768 .f32) (harg20 : arg20.IsWhole) (arg21 : Memref sig .tc .vmem S1x320x768 .f32) (harg21 : arg21.IsWhole) (arg22 : Memref sig .tc .vmem S1x4x80x768 .f32) (harg22 : arg22.IsWhole) (arg23 : Memref sig .tc .vmem S1x768x1280 .i8) (harg23 : arg23.IsWhole) (arg24 : Memref sig .tc .vmem S1x768x1280 .f32) (harg24 : arg24.IsWhole) (arg25 : Memref sig .tc .vmem S768x320 .bf16) (harg25 : arg25.IsWhole) (arg26 : Memref sig .tc .vmem S1x768 .f32) (harg26 : arg26.IsWhole) (arg27 : Memref sig .tc .vmem S768x1280 .f32) (harg27 : arg27.IsWhole) (arg28 : Memref sig .tc .vmem S1x256x320 .bf16) (harg28 : arg28.IsWhole) (arg29 : Memref sig .tc .vmem S2x256x5120 .f32) (harg29 : arg29.IsWhole) (hc0 : cond0_0 i) (x0 : Vec F S1x320x768 .i8) (x1 : Vec F S1x1x768 .f32) (x2 : Vec F S1x768 .i32) (x3 : Vec F S1x768 .i32) (x4 : Vec F S768x1 .i32) (x5 : Vec F S768x1 .i32) (x6 : Vec F S320x5120 .i8) (x7 : Vec F S1x5120 .f32) (x8 : Vec F S320x5120 .i8) (x9 : Vec F S1x5120 .f32) (x10 : Vec F S1x5120 .f32) (x11 : Vec F S1x5120 .f32) (x12 : Vec F S1280x320 .i8) (x13 : Vec F S1x320 .f32) (x14 : Vec F S1x1 .f32) (x15 : Vec F S320x768 .i8) (x16 : Vec F S1x768 .f32) (x17 : Vec F S768x1280 .f32)

/-- The carried codes at the start. -/
def initH : List (View.Piece (Elt F) S768x320 .bf16) :=
  tilesR.map fun g => ⟨rectHst g, k0_pay5 (View.readAt (Elt F) arg4.view (rectSst g).toLoadRect (harg4.unread x3))
    (View.readAt (Elt F) arg16.view (rectH0 g).toLoadRect (harg16.unread x15))⟩

/-- The carried scales at the start. -/
def initS : List (View.Piece (Elt F) S1x768 .f32) :=
  [⟨rectHs0, k0_pay4 (View.readAt (Elt F) arg17.view rectHs0.toLoadRect (harg17.unread x16))⟩]

/-- The carried cells at the start. -/
def initC : List (View.Piece (Elt F) S768x1280 .f32) :=
  tilesR.map fun g => ⟨rectC0 g, k0_pay6 (View.readAt (Elt F) arg5.view (rectNc g).toLoadRect (harg5.unread x4))
    (View.readAt (Elt F) arg18.view (rectC0 g).toLoadRect (harg18.unread x17))⟩

/-- What the body reads. -/
def memA : Mem F where
  x := fun r => View.readAt (Elt F) arg1.view r (harg1.unread x0)
  xs := fun r => View.readAt (Elt F) arg2.view r (harg2.unread x1)
  nr := fun r => View.readAt (Elt F) arg3.view r (harg3.unread x2)
  nc := fun r => View.readAt (Elt F) arg6.view r (harg6.unread x5)
  wx := fun r => View.readAt (Elt F) arg7.view r (harg7.unread x6)
  wxs := fun r => View.readAt (Elt F) arg8.view r (harg8.unread x7)
  wh := fun r => View.readAt (Elt F) arg9.view r (harg9.unread x8)
  whs := fun r => View.readAt (Elt F) arg10.view r (harg10.unread x9)
  gain := fun r => View.readAt (Elt F) arg11.view r (harg11.unread x10)
  bias := fun r => View.readAt (Elt F) arg12.view r (harg12.unread x11)
  wp := fun r => View.readAt (Elt F) arg13.view r (harg13.unread x12)
  wps := fun r => View.readAt (Elt F) arg14.view r (harg14.unread x13)
  ms := View.readAt (Elt F) arg15.view (Rect.unit ![0, 0] S1x1.size inb_S1x1_S1x1_0_0).toLoadRect (harg15.unread x14)
    (Shape.Idx.first (by decide))
  t := BitVec.ofNat 32 (i 0)
  h := fun r => arg25.view.readCov (initH arg4 harg4 arg16 harg16 x3 x15) r
  hs := fun r => arg26.view.readCov (initS arg17 harg17 x16) r
  c := fun r => arg27.view.readCov (initC arg5 harg5 arg18 harg18 x4 x17) r

/-- The body's loads, the carried state read through the writes made so far. -/
def ldA : Ld F :=
  { ofMem arg28.view (memA i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg25 arg26 arg27 x0 x1 x2 x3 x4 x5 x6 x7 x8 x9 x10 x11 x12 x13 x14 x15 x16 x17) with
    c := fun g t => arg27.view.readCov (List.drop (30 - (10 * g.val + t.val)) (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17).2.2.2.2.2.2.2.2.1) (rectCst g t).toLoadRect
    h := fun g => arg25.view.readCov (List.drop (match g with | 0 => 3 | 1 => 3 | 2 => 2) (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17).2.2.2.2.2.2.1) (rectHst g).toLoadRect
    hs := fun g => arg26.view.readCov (List.drop (match g with | 0 => 3 | 1 => 3 | 2 => 2) (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17).2.2.2.2.2.2.2.1) (rectSst g).toLoadRect
    hLater := fun g => arg25.view.readCov (List.drop (3 - g.val) (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17).2.2.2.2.2.2.1) (rectHst g).toLoadRect
    hsLater := fun g => arg26.view.readCov (List.drop (3 - g.val) (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17).2.2.2.2.2.2.2.1) (rectSst g).toLoadRect }

theorem hL_A :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17).1 = hL arg29.view (ldA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17) := by
  sl_kernel_rfl

theorem sL_A :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17).2.1 = sL arg29.view (ldA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17) := by
  sl_kernel_rfl

theorem hfL_A :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17).2.2.1 = hfL arg29.view (ldA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17) := by
  sl_kernel_rfl

theorem ghL_A :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17).2.2.2.1 = ghL (ldA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17) := by
  sl_kernel_rfl

theorem mL_A :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17).2.2.2.2.1 = mL arg29.view (ldA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17) := by
  sl_kernel_rfl

theorem cL_A :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17).2.2.2.2.2.1 = cL arg29.view (ldA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17) := by
  sl_kernel_rfl

theorem hstL_A :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17).2.2.2.2.2.2.1 = hstL arg29.view (ldA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17) ++ initH arg4 harg4 arg16 harg16 x3 x15 := by
  sl_kernel_rfl

theorem sstL_A :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17).2.2.2.2.2.2.2.1 = sstL arg29.view (ldA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17) ++ initS arg17 harg17 x16 := by
  sl_kernel_rfl

theorem cstL_A :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17).2.2.2.2.2.2.2.2.1 = cstL arg29.view (ldA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17) ++ initC arg5 harg5 arg18 harg18 x4 x17 := by
  sl_kernel_rfl

end Cert.Proof.Model
end
-- ==== Proof.ReadA.lean ====
/-
  What the kernel's body leaves at the first step: its lists read back.
-/
module

public import proofs.«01_k».proof.Proof.Gen.KernelIdeal.Frame
public import proofs.«01_k».proof.Proof.MatchA

@[expose] public section

set_option maxRecDepth 100000

noncomputable section

namespace Cert.Proof.Model

open Cert.KernelIdeal Cert.KernelIdeal.Gen Idealize.ShloMosaic Idealize.ShloMosaic.TcCoe Idealize.SL.Sem

variable {F : FTy → Type} [FloatOps F] [Named F]

variable (c : Dev nD) (i : grid0.Coords) (arg1 : Memref sig .tc .vmem S1x320x768 .i8) (harg1 : arg1.IsWhole) (arg2 : Memref sig .tc .vmem S1x1x768 .f32) (harg2 : arg2.IsWhole) (arg3 : Memref sig .tc .vmem S1x768 .i32) (harg3 : arg3.IsWhole) (arg4 : Memref sig .tc .vmem S1x768 .i32) (harg4 : arg4.IsWhole) (arg5 : Memref sig .tc .vmem S768x1 .i32) (harg5 : arg5.IsWhole) (arg6 : Memref sig .tc .vmem S768x1 .i32) (harg6 : arg6.IsWhole) (arg7 : Memref sig .tc .vmem S320x5120 .i8) (harg7 : arg7.IsWhole) (arg8 : Memref sig .tc .vmem S1x5120 .f32) (harg8 : arg8.IsWhole) (arg9 : Memref sig .tc .vmem S320x5120 .i8) (harg9 : arg9.IsWhole) (arg10 : Memref sig .tc .vmem S1x5120 .f32) (harg10 : arg10.IsWhole) (arg11 : Memref sig .tc .vmem S1x5120 .f32) (harg11 : arg11.IsWhole) (arg12 : Memref sig .tc .vmem S1x5120 .f32) (harg12 : arg12.IsWhole) (arg13 : Memref sig .tc .vmem S1280x320 .i8) (harg13 : arg13.IsWhole) (arg14 : Memref sig .tc .vmem S1x320 .f32) (harg14 : arg14.IsWhole) (arg15 : Memref sig .tc .smem S1x1 .f32) (harg15 : arg15.IsWhole) (arg16 : Memref sig .tc .vmem S320x768 .i8) (harg16 : arg16.IsWhole) (arg17 : Memref sig .tc .vmem S1x768 .f32) (harg17 : arg17.IsWhole) (arg18 : Memref sig .tc .vmem S768x1280 .f32) (harg18 : arg18.IsWhole) (arg19 : Memref sig .tc .vmem S1x320x768 .i8) (harg19 : arg19.IsWhole) (arg20 : Memref sig .tc .vmem S1x1x768 .f32) (harg20 : arg20.IsWhole) (arg21 : Memref sig .tc .vmem S1x320x768 .f32) (harg21 : arg21.IsWhole) (arg22 : Memref sig .tc .vmem S1x4x80x768 .f32) (harg22 : arg22.IsWhole) (arg23 : Memref sig .tc .vmem S1x768x1280 .i8) (harg23 : arg23.IsWhole) (arg24 : Memref sig .tc .vmem S1x768x1280 .f32) (harg24 : arg24.IsWhole) (arg25 : Memref sig .tc .vmem S768x320 .bf16) (harg25 : arg25.IsWhole) (arg26 : Memref sig .tc .vmem S1x768 .f32) (harg26 : arg26.IsWhole) (arg27 : Memref sig .tc .vmem S768x1280 .f32) (harg27 : arg27.IsWhole) (arg28 : Memref sig .tc .vmem S1x256x320 .bf16) (harg28 : arg28.IsWhole) (arg29 : Memref sig .tc .vmem S2x256x5120 .f32) (harg29 : arg29.IsWhole) (hc0 : cond0_0 i) (x0 : Vec F S1x320x768 .i8) (x1 : Vec F S1x1x768 .f32) (x2 : Vec F S1x768 .i32) (x3 : Vec F S1x768 .i32) (x4 : Vec F S768x1 .i32) (x5 : Vec F S768x1 .i32) (x6 : Vec F S320x5120 .i8) (x7 : Vec F S1x5120 .f32) (x8 : Vec F S320x5120 .i8) (x9 : Vec F S1x5120 .f32) (x10 : Vec F S1x5120 .f32) (x11 : Vec F S1x5120 .f32) (x12 : Vec F S1280x320 .i8) (x13 : Vec F S1x320 .f32) (x14 : Vec F S1x1 .f32) (x15 : Vec F S320x768 .i8) (x16 : Vec F S1x768 .f32) (x17 : Vec F S768x1280 .f32)

theorem h_A :
    out0_A_18 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 =
      View.canon (hL arg29.view (ldA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17)) := by
  unfold out0_A_18
  rw [View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17), hL_A]

theorem s_A :
    out0_A_19 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 =
      View.canon (sL arg29.view (ldA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17)) := by
  unfold out0_A_19
  rw [View.read_writes_eq_canon _ _ _ (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17), sL_A]

theorem hf_A :
    out0_A_20 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 =
      View.canon (hfL arg29.view (ldA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17)) := by
  unfold out0_A_20
  rw [View.read_writes_eq_canon _ _ _ (cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17), hfL_A]

theorem gh_A :
    out0_A_21 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 =
      View.canon (ghL (ldA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17)) := by
  unfold out0_A_21
  rw [View.read_writes_eq_canon _ _ _ (cover0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17), ghL_A]

theorem m_A :
    out0_A_22 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 =
      View.canon (mL arg29.view (ldA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17)) := by
  unfold out0_A_22
  rw [View.read_writes_eq_canon _ _ _ (cover0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17), mL_A]

theorem c_A :
    out0_A_23 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 =
      View.canon (cL arg29.view (ldA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17)) := by
  unfold out0_A_23
  rw [View.read_writes_eq_canon _ _ _ (cover0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17), cL_A]

theorem hst_A :
    sout0_A_0 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 =
      View.canon (hstL arg29.view (ldA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17) ++ initH arg4 harg4 arg16 harg16 x3 x15) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17), hstL_A]

theorem sst_A :
    sout0_A_1 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 =
      View.canon (sstL arg29.view (ldA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17) ++ initS arg17 harg17 x16) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17), sstL_A]

theorem cst_A :
    sout0_A_2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 =
      View.canon (cstL arg29.view (ldA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17) ++ initC arg5 harg5 arg18 harg18 x4 x17) := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17), cstL_A]

end Cert.Proof.Model
end
-- ==== Proof.Start.lean ====
/-
  What the first step writes into the carried state before it reads it back.
-/
module

public import proofs.«01_k».proof.Proof.Loads
public import proofs.«01_k».proof.Proof.ReadA

@[expose] public section

set_option maxRecDepth 16384

noncomputable section

namespace Cert.Proof.Model

open Cert.KernelIdeal Cert.KernelIdeal.Gen Idealize.ShloMosaic Idealize.ShloMosaic.TcCoe Idealize.SL.Sem

variable {κ' : Kind} {sp' : Space} (vz : ZView κ' sp') (l : Ld Ideal)

theorem later (p : Fin 3) (d : Nat) (h : ∀ j ∈ tilesR.drop d, j ≠ p) (b : Fin 256) (k : Fin 320) (hd : d ≤ 3)
    (L : List (View.Piece (Elt Ideal) S768x320 .bf16)) :
    View.canon ((hstL vz l ++ L).drop d) (ix2 (row p b) k) = View.canon L (ix2 (row p b) k) := by
  rw [← emb_Hst]
  exact canon_drop rectHst (hstPiece vz l) L _ tilesR d hd fun j hj =>
    Finset.disjoint_right.mp (rectHst_disjoint j p (h j hj)) ((rectHst p).idx_mem _)

theorem laterS (p : Fin 3) (d : Nat) (h : ∀ j ∈ tilesR.drop d, j ≠ p) (b : Fin 256) (hd : d ≤ 3)
    (L : List (View.Piece (Elt Ideal) S1x768 .f32)) :
    View.canon ((sstL vz l ++ L).drop d) (ix2 0 (row p b)) = View.canon L (ix2 0 (row p b)) := by
  rw [← emb_Sst]
  exact canon_drop rectSst (sstPiece vz l) L _ tilesR d hd fun j hj =>
    Finset.disjoint_right.mp (rectSst_disjoint j p (h j hj)) ((rectSst p).idx_mem _)

theorem tilesC_later : ∀ p : Fin 3 × Fin 10, ∀ j ∈ tilesC.drop (30 - (10 * p.1.val + p.2.val)), j ≠ p := by decide

theorem laterC (g : Fin 3) (t : Fin 10) (b : Fin 256) (n : Fin 128) (L : List (View.Piece (Elt Ideal) S768x1280 .f32)) :
    View.canon ((cstL vz l ++ L).drop (30 - (10 * g.val + t.val))) (ix2 (row g b) (cell t n)) = View.canon L (ix2 (row g b) (cell t n)) := by
  rw [← emb_Cst]
  exact canon_drop (fun q : Fin 3 × Fin 10 => rectCst q.1 q.2) (fun q => cstPiece vz l q.1 q.2) L _ tilesC _
    (by show _ ≤ 30; omega) fun j hj =>
    Finset.disjoint_right.mp (rectCst_disjoint j (g, t) (tilesC_later (g, t) j hj)) ((rectCst g t).idx_mem _)

theorem emb_C0 (g : Fin 3) (b : Fin 256) (n : Fin 1280) : (rectC0 g).emb (ix2 b n) = ix2 (row g b) n := by
  funext a; apply Fin.ext
  match a with
  | ⟨0, _⟩ => show 256 * g.val + 1 * b.val = 256 * g.val + b.val; omega
  | ⟨1, _⟩ => show 0 + 1 * n.val = n.val; omega

theorem emb_H0 (g : Fin 3) (b : Fin 256) (k : Fin 320) : (rectH0 g).emb (ix2 k b) = ix2 k (row g b) := by
  funext a; apply Fin.ext
  match a with
  | ⟨0, _⟩ => show 0 + 1 * k.val = k.val; omega
  | ⟨1, _⟩ => show 256 * g.val + 1 * b.val = 256 * g.val + b.val; omega

theorem emb_Hs0 (b : Fin 768) : rectHs0.emb (ix2 0 b) = ix2 0 b := by
  funext a; apply Fin.ext
  match a with
  | ⟨0, _⟩ => rfl
  | ⟨1, _⟩ => show 0 + 1 * b.val = b.val; omega

variable (arg4 : Memref Cert.KernelIdeal.sig .tc .vmem S1x768 .i32) (harg4 : arg4.IsWhole)
  (arg5 : Memref Cert.KernelIdeal.sig .tc .vmem S768x1 .i32) (harg5 : arg5.IsWhole)
  (arg16 : Memref Cert.KernelIdeal.sig .tc .vmem S320x768 .i8) (harg16 : arg16.IsWhole)
  (arg17 : Memref Cert.KernelIdeal.sig .tc .vmem S1x768 .f32) (harg17 : arg17.IsWhole)
  (arg18 : Memref Cert.KernelIdeal.sig .tc .vmem S768x1280 .f32) (harg18 : arg18.IsWhole)
  (x3 : Vec Ideal S1x768 .i32) (x4 : Vec Ideal S768x1 .i32) (x15 : Vec Ideal S320x768 .i8) (x16 : Vec Ideal S1x768 .f32)
  (x17 : Vec Ideal S768x1280 .f32) (A : Spec.Args)

/-- The blocks hold what the rows start from. -/
structure Starts : Prop where
  rr : ∀ b, x3 (ix2 0 b) = A.reset b
  rc : ∀ b, x4 (ix2 b 0) = A.reset b
  h0 : ∀ r b, x15 (ix2 r b) = A.h0 b r
  h0s : ∀ b, x16 (ix2 0 b) = A.h0s b
  c0 : ∀ b n, x17 (ix2 b n) = A.c0 b n

variable {x3 x4 x15 x16 x17 A} (S : Starts x3 x4 x15 x16 x17 A)
include S

theorem init_h (g : Fin 3) (b : Fin 256) (k : Fin 320) :
    View.canon (initH (F := Ideal) arg4 harg4 arg16 harg16 x3 x15) (ix2 (row g b) k) = (A.state (row g b) 0).h k := by
  have e := canon_tiles (Val := Elt Ideal) (e := .bf16) rectHst
    (fun g => k0_pay5 (View.readAt (Elt Ideal) arg4.view (rectSst g).toLoadRect (harg4.unread x3))
      (View.readAt (Elt Ideal) arg16.view (rectH0 g).toLoadRect (harg16.unread x15)))
    [] g (ix2 b k) (fun j h => rectHst_disjoint j g h) tilesR (tilesR_mem g)
  rw [List.append_nil, emb_Hst] at e
  refine e.trans ((pay5_at _ _ b k).trans ?_)
  have e1 : View.readAt (Elt Ideal) arg4.view (rectSst g).toLoadRect (harg4.unread x3) (ix2 0 b) = A.reset (row g b) :=
    (harg4.readAt_unread x3 _ _).trans ((congrArg x3 (emb_Sst g b)).trans (S.rr _))
  have e2 : View.readAt (Elt Ideal) arg16.view (rectH0 g).toLoadRect (harg16.unread x15) (ix2 k b) = A.h0 (row g b) k :=
    (harg16.readAt_unread x15 _ _).trans ((congrArg x15 (emb_H0 g b k)).trans (S.h0 _ _))
  rw [e1, e2]
  rfl

theorem init_s (g : Fin 3) (b : Fin 256) :
    View.canon (initS (F := Ideal) arg17 harg17 x16) (ix2 0 (row g b)) = (A.state (row g b) 0).s := by
  rw [← emb_Hs0 (row g b)]
  refine (View.canon_cons_emb _ _ _ _).trans ((pay4_at _ _).trans ?_)
  exact (harg17.readAt_unread x16 _ _).trans ((congrArg x16 (emb_Hs0 _)).trans (S.h0s _))

theorem init_c (g : Fin 3) (b : Fin 256) (n : Fin 1280) :
    View.canon (initC (F := Ideal) arg5 harg5 arg18 harg18 x4 x17) (ix2 (row g b) n) = (A.state (row g b) 0).c n := by
  have e := canon_tiles (Val := Elt Ideal) (e := .f32) rectC0
    (fun g => k0_pay6 (View.readAt (Elt Ideal) arg5.view (rectNc g).toLoadRect (harg5.unread x4))
      (View.readAt (Elt Ideal) arg18.view (rectC0 g).toLoadRect (harg18.unread x17)))
    [] g (ix2 b n) (fun j h => rectC0_disjoint j g h) tilesR (tilesR_mem g)
  rw [List.append_nil, emb_C0] at e
  refine e.trans ((pay6_at _ _ b n).trans ?_)
  have e1 : View.readAt (Elt Ideal) arg5.view (rectNc g).toLoadRect (harg5.unread x4) (ix2 b 0) = A.reset (row g b) :=
    (harg5.readAt_unread x4 _ _).trans ((congrArg x4 (idx_Nc g b)).trans (S.rc _))
  have e2 : View.readAt (Elt Ideal) arg18.view (rectC0 g).toLoadRect (harg18.unread x17) (ix2 b n) = A.c0 (row g b) n :=
    (harg18.readAt_unread x17 _ _).trans ((congrArg x17 (emb_C0 g b n)).trans (S.c0 _ _))
  rw [e1, e2]
  rfl

end Cert.Proof.Model
end
-- ==== Proof.StepA.lean ====
/-
  The first step: from what the rows start from to its results and the state after it.
-/
module

public import proofs.«01_k».proof.Proof.Start

@[expose] public section

set_option maxRecDepth 16384

noncomputable section

namespace Cert.Proof.Model

open Cert.KernelIdeal Cert.KernelIdeal.Gen Idealize.ShloMosaic Idealize.ShloMosaic.TcCoe Idealize.SL.Sem

variable (c : Dev nD) (i : grid0.Coords) (arg1 : Memref Cert.KernelIdeal.sig .tc .vmem S1x320x768 .i8) (harg1 : arg1.IsWhole) (arg2 : Memref Cert.KernelIdeal.sig .tc .vmem S1x1x768 .f32) (harg2 : arg2.IsWhole) (arg3 : Memref Cert.KernelIdeal.sig .tc .vmem S1x768 .i32) (harg3 : arg3.IsWhole) (arg4 : Memref Cert.KernelIdeal.sig .tc .vmem S1x768 .i32) (harg4 : arg4.IsWhole) (arg5 : Memref Cert.KernelIdeal.sig .tc .vmem S768x1 .i32) (harg5 : arg5.IsWhole) (arg6 : Memref Cert.KernelIdeal.sig .tc .vmem S768x1 .i32) (harg6 : arg6.IsWhole) (arg7 : Memref Cert.KernelIdeal.sig .tc .vmem S320x5120 .i8) (harg7 : arg7.IsWhole) (arg8 : Memref Cert.KernelIdeal.sig .tc .vmem S1x5120 .f32) (harg8 : arg8.IsWhole) (arg9 : Memref Cert.KernelIdeal.sig .tc .vmem S320x5120 .i8) (harg9 : arg9.IsWhole) (arg10 : Memref Cert.KernelIdeal.sig .tc .vmem S1x5120 .f32) (harg10 : arg10.IsWhole) (arg11 : Memref Cert.KernelIdeal.sig .tc .vmem S1x5120 .f32) (harg11 : arg11.IsWhole) (arg12 : Memref Cert.KernelIdeal.sig .tc .vmem S1x5120 .f32) (harg12 : arg12.IsWhole) (arg13 : Memref Cert.KernelIdeal.sig .tc .vmem S1280x320 .i8) (harg13 : arg13.IsWhole) (arg14 : Memref Cert.KernelIdeal.sig .tc .vmem S1x320 .f32) (harg14 : arg14.IsWhole) (arg15 : Memref Cert.KernelIdeal.sig .tc .smem S1x1 .f32) (harg15 : arg15.IsWhole) (arg16 : Memref Cert.KernelIdeal.sig .tc .vmem S320x768 .i8) (harg16 : arg16.IsWhole) (arg17 : Memref Cert.KernelIdeal.sig .tc .vmem S1x768 .f32) (harg17 : arg17.IsWhole) (arg18 : Memref Cert.KernelIdeal.sig .tc .vmem S768x1280 .f32) (harg18 : arg18.IsWhole) (arg19 : Memref Cert.KernelIdeal.sig .tc .vmem S1x320x768 .i8) (harg19 : arg19.IsWhole) (arg20 : Memref Cert.KernelIdeal.sig .tc .vmem S1x1x768 .f32) (harg20 : arg20.IsWhole) (arg21 : Memref Cert.KernelIdeal.sig .tc .vmem S1x320x768 .f32) (harg21 : arg21.IsWhole) (arg22 : Memref Cert.KernelIdeal.sig .tc .vmem S1x4x80x768 .f32) (harg22 : arg22.IsWhole) (arg23 : Memref Cert.KernelIdeal.sig .tc .vmem S1x768x1280 .i8) (harg23 : arg23.IsWhole) (arg24 : Memref Cert.KernelIdeal.sig .tc .vmem S1x768x1280 .f32) (harg24 : arg24.IsWhole) (arg25 : Memref Cert.KernelIdeal.sig .tc .vmem S768x320 .bf16) (harg25 : arg25.IsWhole) (arg26 : Memref Cert.KernelIdeal.sig .tc .vmem S1x768 .f32) (harg26 : arg26.IsWhole) (arg27 : Memref Cert.KernelIdeal.sig .tc .vmem S768x1280 .f32) (harg27 : arg27.IsWhole) (arg28 : Memref Cert.KernelIdeal.sig .tc .vmem S1x256x320 .bf16) (harg28 : arg28.IsWhole) (arg29 : Memref Cert.KernelIdeal.sig .tc .vmem S2x256x5120 .f32) (harg29 : arg29.IsWhole) (hc0 : cond0_0 i) (x0 : Vec Ideal S1x320x768 .i8) (x1 : Vec Ideal S1x1x768 .f32) (x2 : Vec Ideal S1x768 .i32) (x3 : Vec Ideal S1x768 .i32) (x4 : Vec Ideal S768x1 .i32) (x5 : Vec Ideal S768x1 .i32) (x6 : Vec Ideal S320x5120 .i8) (x7 : Vec Ideal S1x5120 .f32) (x8 : Vec Ideal S320x5120 .i8) (x9 : Vec Ideal S1x5120 .f32) (x10 : Vec Ideal S1x5120 .f32) (x11 : Vec Ideal S1x5120 .f32) (x12 : Vec Ideal S1280x320 .i8) (x13 : Vec Ideal S1x320 .f32) (x14 : Vec Ideal S1x1 .f32) (x15 : Vec Ideal S320x768 .i8) (x16 : Vec Ideal S1x768 .f32) (x17 : Vec Ideal S768x1280 .f32)

theorem reads_A {A : Spec.Args} (B : Blocks A 0 x0 x1 x2 x5 x6 x7 x8 x9 x10 x11 x12 x13 x14) (S : Starts x3 x4 x15 x16 x17 A) (hms : A.ms ≠ 0) (g : Fin 3) (b : Fin 256) :
    RowReads A 0 (ldA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17) g b := by
  refine reads_of (memReads arg1 harg1 arg2 harg2 arg3 harg3 arg6 harg6 arg7 harg7 arg8 harg8 arg9 harg9 arg10 harg10 arg11 harg11 arg12 harg12 arg13 harg13 arg14 harg14 arg15 harg15 B (BitVec.ofNat 32 (i 0)) (fun r => arg25.view.readCov (initH arg4 harg4 arg16 harg16 x3 x15) r)
    (fun r => arg26.view.readCov (initS arg17 harg17 x16) r) (fun r => arg27.view.readCov (initC arg5 harg5 arg18 harg18 x4 x17) r))
    hms arg28.view _ _ _ _ _ g b ?_ ?_ ?_ ?_ ?_
  · intro k
    rw [hstL_A, View.readCov_eq_canon']
    show View.canon _ ((rectHst g).emb (ix2 b k)) = _
    rw [emb_Hst]
    refine Eq.trans ?_ (init_h arg4 harg4 arg16 harg16 S g b k)
    match g with
    | 0 => exact later arg29.view _ 0 3 (by decide) b k (by decide) _
    | 1 => exact later arg29.view _ 1 3 (by decide) b k (by decide) _
    | 2 => exact later arg29.view _ 2 2 (by decide) b k (by decide) _
  · intro k
    rw [hstL_A, View.readCov_eq_canon']
    show View.canon _ ((rectHst g).emb (ix2 b k)) = _
    rw [emb_Hst]
    refine Eq.trans ?_ (init_h arg4 harg4 arg16 harg16 S g b k)
    match g with
    | 0 => exact later arg29.view _ 0 3 (by decide) b k (by decide) _
    | 1 => exact later arg29.view _ 1 2 (by decide) b k (by decide) _
    | 2 => exact later arg29.view _ 2 1 (by decide) b k (by decide) _
  · rw [sstL_A, View.readCov_eq_canon']
    show View.canon _ ((rectSst g).emb (ix2 0 b)) = _
    rw [emb_Sst]
    refine Eq.trans ?_ (init_s arg17 harg17 S g b)
    match g with
    | 0 => exact laterS arg29.view _ 0 3 (by decide) b (by decide) _
    | 1 => exact laterS arg29.view _ 1 3 (by decide) b (by decide) _
    | 2 => exact laterS arg29.view _ 2 2 (by decide) b (by decide) _
  · rw [sstL_A, View.readCov_eq_canon']
    show View.canon _ ((rectSst g).emb (ix2 0 b)) = _
    rw [emb_Sst]
    refine Eq.trans ?_ (init_s arg17 harg17 S g b)
    match g with
    | 0 => exact laterS arg29.view _ 0 3 (by decide) b (by decide) _
    | 1 => exact laterS arg29.view _ 1 2 (by decide) b (by decide) _
    | 2 => exact laterS arg29.view _ 2 1 (by decide) b (by decide) _
  · intro t' n
    rw [cstL_A, View.readCov_eq_canon']
    show View.canon _ ((rectCst g t').emb (ix2 b n)) = _
    rw [emb_Cst]
    exact (laterC arg29.view _ g t' b n _).trans (init_c arg5 harg5 arg18 harg18 S g b _)

theorem after_A {A : Spec.Args} (B : Blocks A 0 x0 x1 x2 x5 x6 x7 x8 x9 x10 x11 x12 x13 x14) (S : Starts x3 x4 x15 x16 x17 A) (hms : A.ms ≠ 0)
    (ht : BitVec.ofNat 32 (i 0) = BitVec.ofNat 32 0) :
    After A 0 (out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17, out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17, out0_A_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17, out0_A_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17, out0_A_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17, out0_A_23 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17, sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17, sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17, sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17) := by
  rw [h_A, s_A, hf_A, gh_A, m_A, c_A, hst_A, sst_A, cst_A]
  have E := after_of arg29.view _ A 0 (reads_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 B S hms) ht [] [] [] [] [] []
    (initH arg4 harg4 arg16 harg16 x3 x15) (initS arg17 harg17 x16) (initC arg5 harg5 arg18 harg18 x4 x17)
  simp only [List.append_nil] at E
  exact E

end Cert.Proof.Model
end
-- ==== Proof.MatchB.lean ====
/-
  The kernel's body at a step that goes on: the lists of its writes are the model's.
-/
module

public import proofs.«01_k».proof.Proof.Gen.KernelIdeal.Frame.RunB
public import proofs.«01_k».proof.Proof.Lists

@[expose] public section

set_option maxRecDepth 100000

noncomputable section

namespace Cert.Proof.Model

open Cert.KernelIdeal Cert.KernelIdeal.Gen Idealize.ShloMosaic Idealize.ShloMosaic.TcCoe Idealize.SL.Sem
  Idealize.ShloMosaic.Tactic

variable {F : FTy → Type} [FloatOps F] [Named F]

variable (c : Dev nD) (i : grid0.Coords) (arg1 : Memref sig .tc .vmem S1x320x768 .i8) (harg1 : arg1.IsWhole) (arg2 : Memref sig .tc .vmem S1x1x768 .f32) (harg2 : arg2.IsWhole) (arg3 : Memref sig .tc .vmem S1x768 .i32) (harg3 : arg3.IsWhole) (arg4 : Memref sig .tc .vmem S1x768 .i32) (harg4 : arg4.IsWhole) (arg5 : Memref sig .tc .vmem S768x1 .i32) (harg5 : arg5.IsWhole) (arg6 : Memref sig .tc .vmem S768x1 .i32) (harg6 : arg6.IsWhole) (arg7 : Memref sig .tc .vmem S320x5120 .i8) (harg7 : arg7.IsWhole) (arg8 : Memref sig .tc .vmem S1x5120 .f32) (harg8 : arg8.IsWhole) (arg9 : Memref sig .tc .vmem S320x5120 .i8) (harg9 : arg9.IsWhole) (arg10 : Memref sig .tc .vmem S1x5120 .f32) (harg10 : arg10.IsWhole) (arg11 : Memref sig .tc .vmem S1x5120 .f32) (harg11 : arg11.IsWhole) (arg12 : Memref sig .tc .vmem S1x5120 .f32) (harg12 : arg12.IsWhole) (arg13 : Memref sig .tc .vmem S1280x320 .i8) (harg13 : arg13.IsWhole) (arg14 : Memref sig .tc .vmem S1x320 .f32) (harg14 : arg14.IsWhole) (arg15 : Memref sig .tc .smem S1x1 .f32) (harg15 : arg15.IsWhole) (arg16 : Memref sig .tc .vmem S320x768 .i8) (harg16 : arg16.IsWhole) (arg17 : Memref sig .tc .vmem S1x768 .f32) (harg17 : arg17.IsWhole) (arg18 : Memref sig .tc .vmem S768x1280 .f32) (harg18 : arg18.IsWhole) (arg19 : Memref sig .tc .vmem S1x320x768 .i8) (harg19 : arg19.IsWhole) (arg20 : Memref sig .tc .vmem S1x1x768 .f32) (harg20 : arg20.IsWhole) (arg21 : Memref sig .tc .vmem S1x320x768 .f32) (harg21 : arg21.IsWhole) (arg22 : Memref sig .tc .vmem S1x4x80x768 .f32) (harg22 : arg22.IsWhole) (arg23 : Memref sig .tc .vmem S1x768x1280 .i8) (harg23 : arg23.IsWhole) (arg24 : Memref sig .tc .vmem S1x768x1280 .f32) (harg24 : arg24.IsWhole) (arg25 : Memref sig .tc .vmem S768x320 .bf16) (harg25 : arg25.IsWhole) (arg26 : Memref sig .tc .vmem S1x768 .f32) (harg26 : arg26.IsWhole) (arg27 : Memref sig .tc .vmem S768x1280 .f32) (harg27 : arg27.IsWhole) (arg28 : Memref sig .tc .vmem S1x256x320 .bf16) (harg28 : arg28.IsWhole) (arg29 : Memref sig .tc .vmem S2x256x5120 .f32) (harg29 : arg29.IsWhole) (hc0 : ¬cond0_0 i) (x0 : Vec F S1x320x768 .i8) (x1 : Vec F S1x1x768 .f32) (x2 : Vec F S1x768 .i32) (x3 : Vec F S1x768 .i32) (x4 : Vec F S768x1 .i32) (x5 : Vec F S768x1 .i32) (x6 : Vec F S320x5120 .i8) (x7 : Vec F S1x5120 .f32) (x8 : Vec F S320x5120 .i8) (x9 : Vec F S1x5120 .f32) (x10 : Vec F S1x5120 .f32) (x11 : Vec F S1x5120 .f32) (x12 : Vec F S1280x320 .i8) (x13 : Vec F S1x320 .f32) (x14 : Vec F S1x1 .f32) (x15 : Vec F S320x768 .i8) (x16 : Vec F S1x768 .f32) (x17 : Vec F S768x1280 .f32) (xs0 : Vec F S768x320 .bf16) (xs1 : Vec F S1x768 .f32) (xs2 : Vec F S768x1280 .f32)

/-- What the body reads. -/
def memB : Mem F where
  x := fun r => View.readAt (Elt F) arg1.view r (harg1.unread x0)
  xs := fun r => View.readAt (Elt F) arg2.view r (harg2.unread x1)
  nr := fun r => View.readAt (Elt F) arg3.view r (harg3.unread x2)
  nc := fun r => View.readAt (Elt F) arg6.view r (harg6.unread x5)
  wx := fun r => View.readAt (Elt F) arg7.view r (harg7.unread x6)
  wxs := fun r => View.readAt (Elt F) arg8.view r (harg8.unread x7)
  wh := fun r => View.readAt (Elt F) arg9.view r (harg9.unread x8)
  whs := fun r => View.readAt (Elt F) arg10.view r (harg10.unread x9)
  gain := fun r => View.readAt (Elt F) arg11.view r (harg11.unread x10)
  bias := fun r => View.readAt (Elt F) arg12.view r (harg12.unread x11)
  wp := fun r => View.readAt (Elt F) arg13.view r (harg13.unread x12)
  wps := fun r => View.readAt (Elt F) arg14.view r (harg14.unread x13)
  ms := View.readAt (Elt F) arg15.view (Rect.unit ![0, 0] S1x1.size inb_S1x1_S1x1_0_0).toLoadRect (harg15.unread x14)
    (Shape.Idx.first (by decide))
  t := BitVec.ofNat 32 (i 0)
  h := fun r => View.readAt (Elt F) arg25.view r (harg25.unread xs0)
  hs := fun r => View.readAt (Elt F) arg26.view r (harg26.unread xs1)
  c := fun r => View.readAt (Elt F) arg27.view r (harg27.unread xs2)

theorem hL_B :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2).1 = hL arg29.view (ofMem arg28.view (memB i arg1 harg1 arg2 harg2 arg3 harg3 arg6 harg6 arg7 harg7 arg8 harg8 arg9 harg9 arg10 harg10 arg11 harg11 arg12 harg12 arg13 harg13 arg14 harg14 arg15 harg15 arg25 harg25 arg26 harg26 arg27 harg27 x0 x1 x2 x5 x6 x7 x8 x9 x10 x11 x12 x13 x14 xs0 xs1 xs2)) := by
  sl_kernel_rfl

theorem sL_B :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2).2.1 = sL arg29.view (ofMem arg28.view (memB i arg1 harg1 arg2 harg2 arg3 harg3 arg6 harg6 arg7 harg7 arg8 harg8 arg9 harg9 arg10 harg10 arg11 harg11 arg12 harg12 arg13 harg13 arg14 harg14 arg15 harg15 arg25 harg25 arg26 harg26 arg27 harg27 x0 x1 x2 x5 x6 x7 x8 x9 x10 x11 x12 x13 x14 xs0 xs1 xs2)) := by
  sl_kernel_rfl

theorem hfL_B :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2).2.2.1 = hfL arg29.view (ofMem arg28.view (memB i arg1 harg1 arg2 harg2 arg3 harg3 arg6 harg6 arg7 harg7 arg8 harg8 arg9 harg9 arg10 harg10 arg11 harg11 arg12 harg12 arg13 harg13 arg14 harg14 arg15 harg15 arg25 harg25 arg26 harg26 arg27 harg27 x0 x1 x2 x5 x6 x7 x8 x9 x10 x11 x12 x13 x14 xs0 xs1 xs2)) := by
  sl_kernel_rfl

theorem ghL_B :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2).2.2.2.1 = ghL (ofMem arg28.view (memB i arg1 harg1 arg2 harg2 arg3 harg3 arg6 harg6 arg7 harg7 arg8 harg8 arg9 harg9 arg10 harg10 arg11 harg11 arg12 harg12 arg13 harg13 arg14 harg14 arg15 harg15 arg25 harg25 arg26 harg26 arg27 harg27 x0 x1 x2 x5 x6 x7 x8 x9 x10 x11 x12 x13 x14 xs0 xs1 xs2)) := by
  sl_kernel_rfl

theorem mL_B :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2).2.2.2.2.1 = mL arg29.view (ofMem arg28.view (memB i arg1 harg1 arg2 harg2 arg3 harg3 arg6 harg6 arg7 harg7 arg8 harg8 arg9 harg9 arg10 harg10 arg11 harg11 arg12 harg12 arg13 harg13 arg14 harg14 arg15 harg15 arg25 harg25 arg26 harg26 arg27 harg27 x0 x1 x2 x5 x6 x7 x8 x9 x10 x11 x12 x13 x14 xs0 xs1 xs2)) := by
  sl_kernel_rfl

theorem cL_B :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2).2.2.2.2.2.1 = cL arg29.view (ofMem arg28.view (memB i arg1 harg1 arg2 harg2 arg3 harg3 arg6 harg6 arg7 harg7 arg8 harg8 arg9 harg9 arg10 harg10 arg11 harg11 arg12 harg12 arg13 harg13 arg14 harg14 arg15 harg15 arg25 harg25 arg26 harg26 arg27 harg27 x0 x1 x2 x5 x6 x7 x8 x9 x10 x11 x12 x13 x14 xs0 xs1 xs2)) := by
  sl_kernel_rfl

theorem hstL_B :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2).2.2.2.2.2.2.1 = hstL arg29.view (ofMem arg28.view (memB i arg1 harg1 arg2 harg2 arg3 harg3 arg6 harg6 arg7 harg7 arg8 harg8 arg9 harg9 arg10 harg10 arg11 harg11 arg12 harg12 arg13 harg13 arg14 harg14 arg15 harg15 arg25 harg25 arg26 harg26 arg27 harg27 x0 x1 x2 x5 x6 x7 x8 x9 x10 x11 x12 x13 x14 xs0 xs1 xs2)) := by
  sl_kernel_rfl

theorem sstL_B :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2).2.2.2.2.2.2.2.1 = sstL arg29.view (ofMem arg28.view (memB i arg1 harg1 arg2 harg2 arg3 harg3 arg6 harg6 arg7 harg7 arg8 harg8 arg9 harg9 arg10 harg10 arg11 harg11 arg12 harg12 arg13 harg13 arg14 harg14 arg15 harg15 arg25 harg25 arg26 harg26 arg27 harg27 x0 x1 x2 x5 x6 x7 x8 x9 x10 x11 x12 x13 x14 xs0 xs1 xs2)) := by
  sl_kernel_rfl

theorem cstL_B :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2).2.2.2.2.2.2.2.2.1 = cstL arg29.view (ofMem arg28.view (memB i arg1 harg1 arg2 harg2 arg3 harg3 arg6 harg6 arg7 harg7 arg8 harg8 arg9 harg9 arg10 harg10 arg11 harg11 arg12 harg12 arg13 harg13 arg14 harg14 arg15 harg15 arg25 harg25 arg26 harg26 arg27 harg27 x0 x1 x2 x5 x6 x7 x8 x9 x10 x11 x12 x13 x14 xs0 xs1 xs2)) := by
  sl_kernel_rfl

end Cert.Proof.Model
end
-- ==== Proof.ReadB.lean ====
/-
  What the kernel's body leaves at a step that goes on: its lists read back.
-/
module

public import proofs.«01_k».proof.Proof.Gen.KernelIdeal.Frame
public import proofs.«01_k».proof.Proof.MatchB

@[expose] public section

set_option maxRecDepth 100000

noncomputable section

namespace Cert.Proof.Model

open Cert.KernelIdeal Cert.KernelIdeal.Gen Idealize.ShloMosaic Idealize.ShloMosaic.TcCoe Idealize.SL.Sem

variable {F : FTy → Type} [FloatOps F] [Named F]

variable (c : Dev nD) (i : grid0.Coords) (arg1 : Memref sig .tc .vmem S1x320x768 .i8) (harg1 : arg1.IsWhole) (arg2 : Memref sig .tc .vmem S1x1x768 .f32) (harg2 : arg2.IsWhole) (arg3 : Memref sig .tc .vmem S1x768 .i32) (harg3 : arg3.IsWhole) (arg4 : Memref sig .tc .vmem S1x768 .i32) (harg4 : arg4.IsWhole) (arg5 : Memref sig .tc .vmem S768x1 .i32) (harg5 : arg5.IsWhole) (arg6 : Memref sig .tc .vmem S768x1 .i32) (harg6 : arg6.IsWhole) (arg7 : Memref sig .tc .vmem S320x5120 .i8) (harg7 : arg7.IsWhole) (arg8 : Memref sig .tc .vmem S1x5120 .f32) (harg8 : arg8.IsWhole) (arg9 : Memref sig .tc .vmem S320x5120 .i8) (harg9 : arg9.IsWhole) (arg10 : Memref sig .tc .vmem S1x5120 .f32) (harg10 : arg10.IsWhole) (arg11 : Memref sig .tc .vmem S1x5120 .f32) (harg11 : arg11.IsWhole) (arg12 : Memref sig .tc .vmem S1x5120 .f32) (harg12 : arg12.IsWhole) (arg13 : Memref sig .tc .vmem S1280x320 .i8) (harg13 : arg13.IsWhole) (arg14 : Memref sig .tc .vmem S1x320 .f32) (harg14 : arg14.IsWhole) (arg15 : Memref sig .tc .smem S1x1 .f32) (harg15 : arg15.IsWhole) (arg16 : Memref sig .tc .vmem S320x768 .i8) (harg16 : arg16.IsWhole) (arg17 : Memref sig .tc .vmem S1x768 .f32) (harg17 : arg17.IsWhole) (arg18 : Memref sig .tc .vmem S768x1280 .f32) (harg18 : arg18.IsWhole) (arg19 : Memref sig .tc .vmem S1x320x768 .i8) (harg19 : arg19.IsWhole) (arg20 : Memref sig .tc .vmem S1x1x768 .f32) (harg20 : arg20.IsWhole) (arg21 : Memref sig .tc .vmem S1x320x768 .f32) (harg21 : arg21.IsWhole) (arg22 : Memref sig .tc .vmem S1x4x80x768 .f32) (harg22 : arg22.IsWhole) (arg23 : Memref sig .tc .vmem S1x768x1280 .i8) (harg23 : arg23.IsWhole) (arg24 : Memref sig .tc .vmem S1x768x1280 .f32) (harg24 : arg24.IsWhole) (arg25 : Memref sig .tc .vmem S768x320 .bf16) (harg25 : arg25.IsWhole) (arg26 : Memref sig .tc .vmem S1x768 .f32) (harg26 : arg26.IsWhole) (arg27 : Memref sig .tc .vmem S768x1280 .f32) (harg27 : arg27.IsWhole) (arg28 : Memref sig .tc .vmem S1x256x320 .bf16) (harg28 : arg28.IsWhole) (arg29 : Memref sig .tc .vmem S2x256x5120 .f32) (harg29 : arg29.IsWhole) (hc0 : ¬cond0_0 i) (x0 : Vec F S1x320x768 .i8) (x1 : Vec F S1x1x768 .f32) (x2 : Vec F S1x768 .i32) (x3 : Vec F S1x768 .i32) (x4 : Vec F S768x1 .i32) (x5 : Vec F S768x1 .i32) (x6 : Vec F S320x5120 .i8) (x7 : Vec F S1x5120 .f32) (x8 : Vec F S320x5120 .i8) (x9 : Vec F S1x5120 .f32) (x10 : Vec F S1x5120 .f32) (x11 : Vec F S1x5120 .f32) (x12 : Vec F S1280x320 .i8) (x13 : Vec F S1x320 .f32) (x14 : Vec F S1x1 .f32) (x15 : Vec F S320x768 .i8) (x16 : Vec F S1x768 .f32) (x17 : Vec F S768x1280 .f32) (xs0 : Vec F S768x320 .bf16) (xs1 : Vec F S1x768 .f32) (xs2 : Vec F S768x1280 .f32)

theorem h_B :
    out0_B_18 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2 =
      View.canon (hL arg29.view (ofMem arg28.view (memB i arg1 harg1 arg2 harg2 arg3 harg3 arg6 harg6 arg7 harg7 arg8 harg8 arg9 harg9 arg10 harg10 arg11 harg11 arg12 harg12 arg13 harg13 arg14 harg14 arg15 harg15 arg25 harg25 arg26 harg26 arg27 harg27 x0 x1 x2 x5 x6 x7 x8 x9 x10 x11 x12 x13 x14 xs0 xs1 xs2))) := by
  unfold out0_B_18
  rw [View.read_writes_eq_canon _ _ _ (cover0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2), hL_B]

theorem s_B :
    out0_B_19 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2 =
      View.canon (sL arg29.view (ofMem arg28.view (memB i arg1 harg1 arg2 harg2 arg3 harg3 arg6 harg6 arg7 harg7 arg8 harg8 arg9 harg9 arg10 harg10 arg11 harg11 arg12 harg12 arg13 harg13 arg14 harg14 arg15 harg15 arg25 harg25 arg26 harg26 arg27 harg27 x0 x1 x2 x5 x6 x7 x8 x9 x10 x11 x12 x13 x14 xs0 xs1 xs2))) := by
  unfold out0_B_19
  rw [View.read_writes_eq_canon _ _ _ (cover0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2), sL_B]

theorem hf_B :
    out0_B_20 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2 =
      View.canon (hfL arg29.view (ofMem arg28.view (memB i arg1 harg1 arg2 harg2 arg3 harg3 arg6 harg6 arg7 harg7 arg8 harg8 arg9 harg9 arg10 harg10 arg11 harg11 arg12 harg12 arg13 harg13 arg14 harg14 arg15 harg15 arg25 harg25 arg26 harg26 arg27 harg27 x0 x1 x2 x5 x6 x7 x8 x9 x10 x11 x12 x13 x14 xs0 xs1 xs2))) := by
  unfold out0_B_20
  rw [View.read_writes_eq_canon _ _ _ (cover0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2), hfL_B]

theorem gh_B :
    out0_B_21 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2 =
      View.canon (ghL (ofMem arg28.view (memB i arg1 harg1 arg2 harg2 arg3 harg3 arg6 harg6 arg7 harg7 arg8 harg8 arg9 harg9 arg10 harg10 arg11 harg11 arg12 harg12 arg13 harg13 arg14 harg14 arg15 harg15 arg25 harg25 arg26 harg26 arg27 harg27 x0 x1 x2 x5 x6 x7 x8 x9 x10 x11 x12 x13 x14 xs0 xs1 xs2))) := by
  unfold out0_B_21
  rw [View.read_writes_eq_canon _ _ _ (cover0_B_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2), ghL_B]

theorem m_B :
    out0_B_22 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2 =
      View.canon (mL arg29.view (ofMem arg28.view (memB i arg1 harg1 arg2 harg2 arg3 harg3 arg6 harg6 arg7 harg7 arg8 harg8 arg9 harg9 arg10 harg10 arg11 harg11 arg12 harg12 arg13 harg13 arg14 harg14 arg15 harg15 arg25 harg25 arg26 harg26 arg27 harg27 x0 x1 x2 x5 x6 x7 x8 x9 x10 x11 x12 x13 x14 xs0 xs1 xs2))) := by
  unfold out0_B_22
  rw [View.read_writes_eq_canon _ _ _ (cover0_B_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2), mL_B]

theorem c_B :
    out0_B_23 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2 =
      View.canon (cL arg29.view (ofMem arg28.view (memB i arg1 harg1 arg2 harg2 arg3 harg3 arg6 harg6 arg7 harg7 arg8 harg8 arg9 harg9 arg10 harg10 arg11 harg11 arg12 harg12 arg13 harg13 arg14 harg14 arg15 harg15 arg25 harg25 arg26 harg26 arg27 harg27 x0 x1 x2 x5 x6 x7 x8 x9 x10 x11 x12 x13 x14 xs0 xs1 xs2))) := by
  unfold out0_B_23
  rw [View.read_writes_eq_canon _ _ _ (cover0_B_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2), cL_B]

theorem hst_B :
    sout0_B_0 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2 =
      View.canon (hstL arg29.view (ofMem arg28.view (memB i arg1 harg1 arg2 harg2 arg3 harg3 arg6 harg6 arg7 harg7 arg8 harg8 arg9 harg9 arg10 harg10 arg11 harg11 arg12 harg12 arg13 harg13 arg14 harg14 arg15 harg15 arg25 harg25 arg26 harg26 arg27 harg27 x0 x1 x2 x5 x6 x7 x8 x9 x10 x11 x12 x13 x14 xs0 xs1 xs2))) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2), hstL_B]

theorem sst_B :
    sout0_B_1 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2 =
      View.canon (sstL arg29.view (ofMem arg28.view (memB i arg1 harg1 arg2 harg2 arg3 harg3 arg6 harg6 arg7 harg7 arg8 harg8 arg9 harg9 arg10 harg10 arg11 harg11 arg12 harg12 arg13 harg13 arg14 harg14 arg15 harg15 arg25 harg25 arg26 harg26 arg27 harg27 x0 x1 x2 x5 x6 x7 x8 x9 x10 x11 x12 x13 x14 xs0 xs1 xs2))) := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2), sstL_B]

theorem cst_B :
    sout0_B_2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2 =
      View.canon (cstL arg29.view (ofMem arg28.view (memB i arg1 harg1 arg2 harg2 arg3 harg3 arg6 harg6 arg7 harg7 arg8 harg8 arg9 harg9 arg10 harg10 arg11 harg11 arg12 harg12 arg13 harg13 arg14 harg14 arg15 harg15 arg25 harg25 arg26 harg26 arg27 harg27 x0 x1 x2 x5 x6 x7 x8 x9 x10 x11 x12 x13 x14 xs0 xs1 xs2))) := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2), cstL_B]

end Cert.Proof.Model
end
-- ==== Proof.StepB.lean ====
/-
  A step after the first: from the state before it to its results and the state after it.
-/
module

public import proofs.«01_k».proof.Proof.Loads
public import proofs.«01_k».proof.Proof.ReadB

@[expose] public section

set_option maxRecDepth 16384

noncomputable section

namespace Cert.Proof.Model

open Cert.KernelIdeal Cert.KernelIdeal.Gen Idealize.ShloMosaic Idealize.ShloMosaic.TcCoe Idealize.SL.Sem

variable (c : Dev nD) (i : grid0.Coords) (arg1 : Memref Cert.KernelIdeal.sig .tc .vmem S1x320x768 .i8) (harg1 : arg1.IsWhole) (arg2 : Memref Cert.KernelIdeal.sig .tc .vmem S1x1x768 .f32) (harg2 : arg2.IsWhole) (arg3 : Memref Cert.KernelIdeal.sig .tc .vmem S1x768 .i32) (harg3 : arg3.IsWhole) (arg4 : Memref Cert.KernelIdeal.sig .tc .vmem S1x768 .i32) (harg4 : arg4.IsWhole) (arg5 : Memref Cert.KernelIdeal.sig .tc .vmem S768x1 .i32) (harg5 : arg5.IsWhole) (arg6 : Memref Cert.KernelIdeal.sig .tc .vmem S768x1 .i32) (harg6 : arg6.IsWhole) (arg7 : Memref Cert.KernelIdeal.sig .tc .vmem S320x5120 .i8) (harg7 : arg7.IsWhole) (arg8 : Memref Cert.KernelIdeal.sig .tc .vmem S1x5120 .f32) (harg8 : arg8.IsWhole) (arg9 : Memref Cert.KernelIdeal.sig .tc .vmem S320x5120 .i8) (harg9 : arg9.IsWhole) (arg10 : Memref Cert.KernelIdeal.sig .tc .vmem S1x5120 .f32) (harg10 : arg10.IsWhole) (arg11 : Memref Cert.KernelIdeal.sig .tc .vmem S1x5120 .f32) (harg11 : arg11.IsWhole) (arg12 : Memref Cert.KernelIdeal.sig .tc .vmem S1x5120 .f32) (harg12 : arg12.IsWhole) (arg13 : Memref Cert.KernelIdeal.sig .tc .vmem S1280x320 .i8) (harg13 : arg13.IsWhole) (arg14 : Memref Cert.KernelIdeal.sig .tc .vmem S1x320 .f32) (harg14 : arg14.IsWhole) (arg15 : Memref Cert.KernelIdeal.sig .tc .smem S1x1 .f32) (harg15 : arg15.IsWhole) (arg16 : Memref Cert.KernelIdeal.sig .tc .vmem S320x768 .i8) (harg16 : arg16.IsWhole) (arg17 : Memref Cert.KernelIdeal.sig .tc .vmem S1x768 .f32) (harg17 : arg17.IsWhole) (arg18 : Memref Cert.KernelIdeal.sig .tc .vmem S768x1280 .f32) (harg18 : arg18.IsWhole) (arg19 : Memref Cert.KernelIdeal.sig .tc .vmem S1x320x768 .i8) (harg19 : arg19.IsWhole) (arg20 : Memref Cert.KernelIdeal.sig .tc .vmem S1x1x768 .f32) (harg20 : arg20.IsWhole) (arg21 : Memref Cert.KernelIdeal.sig .tc .vmem S1x320x768 .f32) (harg21 : arg21.IsWhole) (arg22 : Memref Cert.KernelIdeal.sig .tc .vmem S1x4x80x768 .f32) (harg22 : arg22.IsWhole) (arg23 : Memref Cert.KernelIdeal.sig .tc .vmem S1x768x1280 .i8) (harg23 : arg23.IsWhole) (arg24 : Memref Cert.KernelIdeal.sig .tc .vmem S1x768x1280 .f32) (harg24 : arg24.IsWhole) (arg25 : Memref Cert.KernelIdeal.sig .tc .vmem S768x320 .bf16) (harg25 : arg25.IsWhole) (arg26 : Memref Cert.KernelIdeal.sig .tc .vmem S1x768 .f32) (harg26 : arg26.IsWhole) (arg27 : Memref Cert.KernelIdeal.sig .tc .vmem S768x1280 .f32) (harg27 : arg27.IsWhole) (arg28 : Memref Cert.KernelIdeal.sig .tc .vmem S1x256x320 .bf16) (harg28 : arg28.IsWhole) (arg29 : Memref Cert.KernelIdeal.sig .tc .vmem S2x256x5120 .f32) (harg29 : arg29.IsWhole) (hc0 : ¬cond0_0 i) (x0 : Vec Ideal S1x320x768 .i8) (x1 : Vec Ideal S1x1x768 .f32) (x2 : Vec Ideal S1x768 .i32) (x3 : Vec Ideal S1x768 .i32) (x4 : Vec Ideal S768x1 .i32) (x5 : Vec Ideal S768x1 .i32) (x6 : Vec Ideal S320x5120 .i8) (x7 : Vec Ideal S1x5120 .f32) (x8 : Vec Ideal S320x5120 .i8) (x9 : Vec Ideal S1x5120 .f32) (x10 : Vec Ideal S1x5120 .f32) (x11 : Vec Ideal S1x5120 .f32) (x12 : Vec Ideal S1280x320 .i8) (x13 : Vec Ideal S1x320 .f32) (x14 : Vec Ideal S1x1 .f32) (x15 : Vec Ideal S320x768 .i8) (x16 : Vec Ideal S1x768 .f32) (x17 : Vec Ideal S768x1280 .f32) (xs0 : Vec Ideal S768x320 .bf16) (xs1 : Vec Ideal S1x768 .f32) (xs2 : Vec Ideal S768x1280 .f32)

theorem after_B {A : Spec.Args} {t : Nat} (B : Blocks A t x0 x1 x2 x5 x6 x7 x8 x9 x10 x11 x12 x13 x14) (hms : A.ms ≠ 0)
    (ht : BitVec.ofNat 32 (i 0) = BitVec.ofNat 32 t)
    (e0 : ∀ b k, xs0 (ix2 b k) = (A.state b t).h k) (e1 : ∀ b, xs1 (ix2 0 b) = (A.state b t).s)
    (e2 : ∀ b n, xs2 (ix2 b n) = (A.state b t).c n) :
    After A t (out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2, out0_B_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2, out0_B_20 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2, out0_B_21 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2, out0_B_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2, out0_B_23 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2, sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2, sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2, sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 hc0 x0 x1 x2 x3 x4 x5 x6 x7 x8 x9 x10 x11 x12 x13 x14 x15 x16 x17 xs0 xs1 xs2) := by
  rw [h_B, s_B, hf_B, gh_B, m_B, c_B, hst_B, sst_B, cst_B]
  have H : MemReads A t (memB i arg1 harg1 arg2 harg2 arg3 harg3 arg6 harg6 arg7 harg7 arg8 harg8 arg9 harg9 arg10 harg10 arg11 harg11 arg12 harg12 arg13 harg13 arg14 harg14 arg15 harg15 arg25 harg25 arg26 harg26 arg27 harg27 x0 x1 x2 x5 x6 x7 x8 x9 x10 x11 x12 x13 x14 xs0 xs1 xs2) := memReads arg1 harg1 arg2 harg2 arg3 harg3 arg6 harg6 arg7 harg7 arg8 harg8 arg9 harg9 arg10 harg10 arg11 harg11 arg12 harg12 arg13 harg13 arg14 harg14 arg15 harg15 B _ _ _ _
  have R : ∀ g b, RowReads A t (ofMem arg28.view (memB i arg1 harg1 arg2 harg2 arg3 harg3 arg6 harg6 arg7 harg7 arg8 harg8 arg9 harg9 arg10 harg10 arg11 harg11 arg12 harg12 arg13 harg13 arg14 harg14 arg15 harg15 arg25 harg25 arg26 harg26 arg27 harg27 x0 x1 x2 x5 x6 x7 x8 x9 x10 x11 x12 x13 x14 xs0 xs1 xs2)) g b := fun g b =>
    reads_mem H hms arg28.view g b
      (fun k => (harg25.readAt_unread xs0 _ _).trans ((congrArg xs0 (emb_Hst g k b)).trans (e0 _ _)))
      ((harg26.readAt_unread xs1 _ _).trans ((congrArg xs1 (emb_Sst g b)).trans (e1 _)))
      (fun t' n => (harg27.readAt_unread xs2 _ _).trans ((congrArg xs2 (emb_Cst g t' b n)).trans (e2 _ _)))
  have E := after_of arg29.view _ A t R ht [] [] [] [] [] [] [] [] []
  simp only [List.append_nil] at E
  exact E

end Cert.Proof.Model
end
-- ==== Proof.Steps.lean ====
/-
  All the kernel's steps, and its results.
-/
module

public import proofs.«01_k».proof.Proof.Gen.KernelIdeal.Value
public import proofs.«01_k».proof.Proof.Blocks
public import proofs.«01_k».proof.Proof.StepA
public import proofs.«01_k».proof.Proof.StepB

@[expose] public section

set_option maxRecDepth 16384

noncomputable section

namespace Cert.Proof.Model

open Cert.KernelIdeal Cert.KernelIdeal.Gen Cert.KernelIdeal.Value Idealize.ShloMosaic Idealize.ShloMosaic.TcCoe Idealize.SL.Sem

variable (m : (ℓ : Loc nD τ Cert.KernelIdeal.sig) → Buf (Elt Ideal) ℓ) (c : Dev nD)

theorem blocks (t : Fin cfg0.N) : Blocks (kArgs m c) t.val (iblk m c 0 t) (iblk m c 1 t) (iblk m c 2 t) (iblk m c 5 t) (iblk m c 6 t)
    (iblk m c 7 t) (iblk m c 8 t) (iblk m c 9 t) (iblk m c 10 t) (iblk m c 11 t) (iblk m c 12 t) (iblk m c 13 t) (iblk m c 14 t) where
  x := blk0 m c t
  xs := blk1 m c t
  nr := blk2 m c t
  nc := blk5 m c t
  wx := blk6 m c t
  wxs := blk7 m c t
  wh := blk8 m c t
  whs := blk9 m c t
  gain := blk10 m c t
  bias := blk11 m c t
  wp := blk12 m c t
  wps := blk13 m c t
  ms := blk14 m c t

theorem starts (t : Fin cfg0.N) : Starts (iblk m c 3 t) (iblk m c 4 t) (iblk m c 15 t) (iblk m c 16 t) (iblk m c 17 t) (kArgs m c) where
  rr := blk3 m c t
  rc := blk4 m c t
  h0 := blk15 m c t
  h0s := blk16 m c t
  c0 := blk17 m c t

theorem step_number : ∀ t : Fin cfg0.N, BitVec.ofNat 32 (grid0.coords t 0) = BitVec.ofNat 32 t.val :=
  (by decide +kernel : ∀ t : Fin grid0.N, BitVec.ofNat 32 (grid0.coords t 0) = BitVec.ofNat 32 t.val)

theorem after_steps (hms : (kArgs m c).ms ≠ 0) : ∀ (n : Nat) (hn : n < cfg0.N), After (kArgs m c) n (outsAt0 m c n hn)
  | 0, hn => by
    rw [outsAt0_zero, stAt0_A m c ⟨0, hn⟩ _ (Nat.zero_mod _)]
    exact after_A _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (blocks m c ⟨0, hn⟩) (starts m c ⟨0, hn⟩) hms (step_number ⟨0, hn⟩)
  | n + 1, hn => by
    have hN := lt_of_lt_of_eq hn (show cfg0.N = 64 from N_0)
    have ih := after_steps hms n (Nat.lt_of_succ_lt hn)
    rw [outsAt0_succ, stAt0_B m c ⟨n + 1, hn⟩ _ (by show ¬(n + 1) % 64 = 0; omega)]
    exact after_B _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (blocks m c ⟨n + 1, hn⟩) hms (step_number ⟨n + 1, hn⟩)
      (fun b k => congrFun (congrArg Spec.St.h (ih.st b)) k) (fun b => congrArg Spec.St.s (ih.st b))
      (fun b n => congrFun (congrArg Spec.St.c (ih.st b)) n)

theorem fold_at (j : Nat) (h : 0 + j < cfg0.N) (n : Nat) (hn : n < cfg0.N) (e : j = n) :
    Pipeline.accAt (fun n h => stAt0 m c n h junk0) (stAt0 m c) 0 j h = outsAt0 m c n hn := by
  subst e
  exact (outsAt0_sweep m c j hn).symm

theorem inside (t : Fin 64) : t.val < cfg0.N := lt_of_lt_of_eq t.isLt (show 64 = cfg0.N from N_0.symm)

theorem out18 (hms : (kArgs m c).ms ≠ 0) (t : Fin 64) (r : Fin 320) (b : Fin 768) : G18 m c (ix3 t r b) = (kArgs m c).outH t r b := by
  have e : pt18Of (ix3 t r b) = t.val := (by show 1 * (t.val / 1 - 0) + 1 * (r.val / 320 - 0) + 1 * (b.val / 768 - 0) = t.val; omega)
  have h : pt18Of (ix3 t r b) < cfg0.N := lt_of_eq_of_lt e (inside t)
  have l : loc18Of (ix3 t r b) = ix3 0 r b := by
    funext a; apply Fin.ext
    match a with
    | ⟨0, _⟩ => show t.val % 1 = 0; omega
    | ⟨1, _⟩ => show r.val % 320 = r.val; omega
    | ⟨2, _⟩ => show b.val % 768 = b.val; omega
  unfold G18
  rw [dif_pos h, fold_at m c _ _ t.val (inside t) e, l]
  exact (after_steps m c hms t.val (inside t)).h r b

theorem out19 (hms : (kArgs m c).ms ≠ 0) (t : Fin 64) (b : Fin 768) : G19 m c (ix3 t 0 b) = (kArgs m c).outS t b := by
  have e : pt19Of (ix3 t 0 b) = t.val := (by show 1 * (t.val / 1 - 0) + 1 * ((0 : Fin 1).val / 1 - 0) + 1 * (b.val / 768 - 0) = t.val; omega)
  have h : pt19Of (ix3 t 0 b) < cfg0.N := lt_of_eq_of_lt e (inside t)
  have l : loc19Of (ix3 t 0 b) = ix3 0 0 b := by
    funext a; apply Fin.ext
    match a with
    | ⟨0, _⟩ => show t.val % 1 = 0; omega
    | ⟨1, _⟩ => show (0 : Fin 1).val % 1 = (0 : Fin 1).val; omega
    | ⟨2, _⟩ => show b.val % 768 = b.val; omega
  unfold G19
  rw [dif_pos h, fold_at m c _ _ t.val (inside t) e, l]
  exact (after_steps m c hms t.val (inside t)).s b

theorem out20 (hms : (kArgs m c).ms ≠ 0) (t : Fin 64) (r : Fin 320) (b : Fin 768) : G20 m c (ix3 t r b) = (kArgs m c).outHf t r b := by
  have e : pt20Of (ix3 t r b) = t.val := (by show 1 * (t.val / 1 - 0) + 1 * (r.val / 320 - 0) + 1 * (b.val / 768 - 0) = t.val; omega)
  have h : pt20Of (ix3 t r b) < cfg0.N := lt_of_eq_of_lt e (inside t)
  have l : loc20Of (ix3 t r b) = ix3 0 r b := by
    funext a; apply Fin.ext
    match a with
    | ⟨0, _⟩ => show t.val % 1 = 0; omega
    | ⟨1, _⟩ => show r.val % 320 = r.val; omega
    | ⟨2, _⟩ => show b.val % 768 = b.val; omega
  unfold G20
  rw [dif_pos h, fold_at m c _ _ t.val (inside t) e, l]
  exact (after_steps m c hms t.val (inside t)).hf r b

theorem out21 (hms : (kArgs m c).ms ≠ 0) (t : Fin 64) (g : Fin 4) (p : Fin 80) (b : Fin 768) : G21 m c (ix4 t g p b) = (kArgs m c).outGh t g p b := by
  have e : pt21Of (ix4 t g p b) = t.val := (by show 1 * (t.val / 1 - 0) + 1 * (g.val / 4 - 0) + 1 * (p.val / 80 - 0) + 1 * (b.val / 768 - 0) = t.val; omega)
  have h : pt21Of (ix4 t g p b) < cfg0.N := lt_of_eq_of_lt e (inside t)
  have l : loc21Of (ix4 t g p b) = ix4 0 g p b := by
    funext a; apply Fin.ext
    match a with
    | ⟨0, _⟩ => show t.val % 1 = 0; omega
    | ⟨1, _⟩ => show g.val % 4 = g.val; omega
    | ⟨2, _⟩ => show p.val % 80 = p.val; omega
    | ⟨3, _⟩ => show b.val % 768 = b.val; omega
  unfold G21
  rw [dif_pos h, fold_at m c _ _ t.val (inside t) e, l]
  exact (after_steps m c hms t.val (inside t)).gh g p b

theorem out22 (hms : (kArgs m c).ms ≠ 0) (t : Fin 64) (b : Fin 768) (n : Fin 1280) : G22 m c (ix3 t b n) = (kArgs m c).outM t b n := by
  have e : pt22Of (ix3 t b n) = t.val := (by show 1 * (t.val / 1 - 0) + 1 * (b.val / 768 - 0) + 1 * (n.val / 1280 - 0) = t.val; omega)
  have h : pt22Of (ix3 t b n) < cfg0.N := lt_of_eq_of_lt e (inside t)
  have l : loc22Of (ix3 t b n) = ix3 0 b n := by
    funext a; apply Fin.ext
    match a with
    | ⟨0, _⟩ => show t.val % 1 = 0; omega
    | ⟨1, _⟩ => show b.val % 768 = b.val; omega
    | ⟨2, _⟩ => show n.val % 1280 = n.val; omega
  unfold G22
  rw [dif_pos h, fold_at m c _ _ t.val (inside t) e, l]
  exact (after_steps m c hms t.val (inside t)).m b n

theorem out23 (hms : (kArgs m c).ms ≠ 0) (t : Fin 64) (b : Fin 768) (n : Fin 1280) : G23 m c (ix3 t b n) = (kArgs m c).outC t b n := by
  have e : pt23Of (ix3 t b n) = t.val := (by show 1 * (t.val / 1 - 0) + 1 * (b.val / 768 - 0) + 1 * (n.val / 1280 - 0) = t.val; omega)
  have h : pt23Of (ix3 t b n) < cfg0.N := lt_of_eq_of_lt e (inside t)
  have l : loc23Of (ix3 t b n) = ix3 0 b n := by
    funext a; apply Fin.ext
    match a with
    | ⟨0, _⟩ => show t.val % 1 = 0; omega
    | ⟨1, _⟩ => show b.val % 768 = b.val; omega
    | ⟨2, _⟩ => show n.val % 1280 = n.val; omega
  unfold G23
  rw [dif_pos h, fold_at m c _ _ t.val (inside t) e, l]
  exact (after_steps m c hms t.val (inside t)).c b n

end Cert.Proof.Model
end
-- ==== Proof.RefModel.lean ====
/-
  The reference's step as a function of its loads and of what it carries.
-/
module

public import proofs.«01_k».proof.Defs
public import proofs.«01_k».proof.Proof.Gen.ReferenceIdeal.Value

@[expose] public section

set_option maxRecDepth 16384

noncomputable section

namespace Cert.Proof.Ref

open Cert.ReferenceIdeal Cert.ReferenceIdeal.Gen Idealize.ShloMosaic Idealize.ShloMosaic.TcCoe Idealize.SL.Sem Idealize.ShloMosaic.Tactic

variable {F : FTy → Type} [FloatOps F]

/-- What a step carries. -/
abbrev Carry (F : FTy → Type) : Type := IVec S768x320 8 × FVec F S768x1 .f32 × FVec F S768x1280 .f32

/-- What a step loads. -/
structure Ld (F : FTy → Type) where
  live : IVec S768x1 1
  x : Vec F S1x768x320 .i8
  xs : Vec F S1x768x1 .f32
  wx : Fin 4 → Vec F S1x1280x320 .i8
  wxs : Fin 4 → Vec F S1x1x1280 .f32
  wh : Fin 4 → Vec F S1x1280x320 .i8
  whs : Fin 4 → Vec F S1x1x1280 .f32
  gain : Fin 4 → Vec F S1x1x1280 .f32
  bias : Fin 4 → Vec F S1x1x1280 .f32
  wp : Vec F S320x1280 .i8
  wps : Vec F S1x320 .f32
  ms : F .f32

variable (l : Ld F) (a : Carry F)

def gh (g : Fin 4) : FVec F S768x1280 .f32 := k0_pay10 a.1 a.2.1 (l.wh g) (l.whs g)
def z (g : Fin 4) : FVec F S768x1280 .f32 := k0_pay11 a.1 a.2.1 l.x (l.wx g) l.xs (l.wxs g) (l.wh g) (l.whs g)
def zn (g : Fin 4) : FVec F S768x1280 .f32 := k0_pay13 (z l a g) (k0_pay12 (l.gain g)) (l.bias g)
def cNew : FVec F S768x1280 .f32 := k0_pay32 a.2.2 (zn l a 0) (zn l a 1) (zn l a 2)

/-- The cell's codes. -/
def codes : IVec S768x1280 8 :=
  fptosi 8 (minimumf (broadcast S768x1280 (Scalar.ofBits .f32 0x42FE0000#32)) (maximumf (broadcast S768x1280 (Scalar.ofBits .f32 0xC2FE0000#32))
    (roundeven (divf (mulf (logistic (zn l a 3)) (tanh (cNew l a))) (broadcast S768x1280 l.ms)))))

/-- The projection. -/
def hf : FVec F S768x320 .f32 :=
  mulf (mulf (matmul dot_S768x1280_S320x1280_S768x320_1_1_0_0_n_n none (sitofp .bf16 (codes l a)) (sitofp .bf16 l.wp)
    (constant S768x320 .f32 0x00000000#32)) (broadcast S768x320 l.ms))
    (broadcastTo S768x320 (shapeCast S1x320 l.wps shapeCasts_S1x320_S1x320) broadcasts_S1x320_S768x320)

/-- What the step hands on. -/
def next : Carry F := (k0_pay36 a.1 l.live (hf l a), k0_pay37 a.2.1 l.live (hf l a), k0_pay38 a.2.2 l.live (cNew l a))

def outH : Vec F S1x320x768 .i8 := k0_pay39 a.1 l.live (hf l a)
def outS : Vec F S1x1x768 .f32 := k0_pay40 a.2.1 l.live (hf l a)
def outHf : Vec F S1x320x768 .f32 := k0_pay41 l.live (hf l a)
def outGh (g : Fin 4) : Vec F S1x1x80x768 .f32 := k0_pay14 l.live (gh l a g)
def outM : Vec F S1x768x1280 .i8 := k0_pay6 l.live (codes l a) 0#8
def outC : Vec F S1x768x1280 .f32 := k0_pay7 (k0_pay38 a.2.2 l.live (cNew l a))

theorem gateW_inb (g : Fin 4) : ∀ a, (![g.val, 0, 0] : Fin 3 → Nat) a + S1x1280x320.size a ≤ S4x1280x320.size a := by
  intro a; fin_cases a
  · show g.val + 1 ≤ 4; omega
  · show 0 + 1280 ≤ 1280; omega
  · show 0 + 320 ≤ 320; omega

theorem gateS_inb (g : Fin 4) : ∀ a, (![g.val, 0, 0] : Fin 3 → Nat) a + S1x1x1280.size a ≤ S4x1x1280.size a := by
  intro a; fin_cases a
  · show g.val + 1 ≤ 4; omega
  · show 0 + 1 ≤ 1; omega
  · show 0 + 1280 ≤ 1280; omega

def rectX (k : Fin k0_t1_loop.trips) : Rect S64x768x320 := Rect.unit (s := S64x768x320) (k0_off1 k) S1x768x320.size (k0_off1_inb k)
def rectXs (k : Fin k0_t1_loop.trips) : Rect S64x768x1 := Rect.unit (s := S64x768x1) (k0_off2 k) S1x768x1.size (k0_off2_inb k)
def rectW (g : Fin 4) : Rect S4x1280x320 := Rect.unit ![g.val, 0, 0] S1x1280x320.size (gateW_inb g)
def rectV (g : Fin 4) : Rect S4x1x1280 := Rect.unit ![g.val, 0, 0] S1x1x1280.size (gateS_inb g)
def rectN : Rect S768x1 := Rect.unit ![0, 0] S768x1.size (by intro a; fin_cases a <;> decide)
def rectWp : Rect S320x1280 := Rect.unit ![0, 0] S320x1280.size (by intro a; fin_cases a <;> decide)
def rectWps : Rect S1x320 := Rect.unit ![0, 0] S1x320.size (by intro a; fin_cases a <;> decide)
def rectH (k : Fin k0_t1_loop.trips) : Rect S64x320x768 := Rect.unit (s := S64x320x768) (k0_off7 k) S1x320x768.size (k0_off7_inb k)
def rectS (k : Fin k0_t1_loop.trips) : Rect S64x1x768 := Rect.unit (s := S64x1x768) (k0_off8 k) S1x1x768.size (k0_off8_inb k)
def rectC (k : Fin k0_t1_loop.trips) : Rect S64x768x1280 := Rect.unit (s := S64x768x1280) (k0_off9 k) S1x768x1280.size (k0_off9_inb k)
def rectG (k : Fin k0_t1_loop.trips) : Fin 4 → Rect S64x4x80x768
  | 0 => Rect.unit (s := S64x4x80x768) (k0_off3 k) S1x1x80x768.size (k0_off3_inb k)
  | 1 => Rect.unit (s := S64x4x80x768) (k0_off4 k) S1x1x80x768.size (k0_off4_inb k)
  | 2 => Rect.unit (s := S64x4x80x768) (k0_off5 k) S1x1x80x768.size (k0_off5_inb k)
  | 3 => Rect.unit (s := S64x4x80x768) (k0_off6 k) S1x1x80x768.size (k0_off6_inb k)

variable (𝒱 : Variants) (c : Dev nD) (bd : Option 𝒱.V) (arg0 : Memref sig .tc .vmem S64x768x320 .i8) (harg0 : arg0.IsWhole) (arg1 : Memref sig .tc .vmem S64x768x1 .f32) (harg1 : arg1.IsWhole) (arg2 : Memref sig .tc .vmem S768x1 .i32) (harg2 : arg2.IsWhole) (arg3 : Memref sig .tc .vmem S768x1 .i32) (harg3 : arg3.IsWhole) (arg4 : Memref sig .tc .vmem S4x1280x320 .i8) (harg4 : arg4.IsWhole) (arg5 : Memref sig .tc .vmem S4x1x1280 .f32) (harg5 : arg5.IsWhole) (arg6 : Memref sig .tc .vmem S4x1280x320 .i8) (harg6 : arg6.IsWhole) (arg7 : Memref sig .tc .vmem S4x1x1280 .f32) (harg7 : arg7.IsWhole) (arg8 : Memref sig .tc .vmem S4x1x1280 .f32) (harg8 : arg8.IsWhole) (arg9 : Memref sig .tc .vmem S4x1x1280 .f32) (harg9 : arg9.IsWhole) (arg10 : Memref sig .tc .vmem S320x1280 .i8) (harg10 : arg10.IsWhole) (arg11 : Memref sig .tc .vmem S1x320 .f32) (harg11 : arg11.IsWhole) (arg12 : Memref sig .tc .vmem S1x1 .f32) (harg12 : arg12.IsWhole) (arg13 : Memref sig .tc .vmem S768x320 .i8) (harg13 : arg13.IsWhole) (arg14 : Memref sig .tc .vmem S768x1 .f32) (harg14 : arg14.IsWhole) (arg15 : Memref sig .tc .vmem S768x1280 .f32) (harg15 : arg15.IsWhole) (arg16 : Memref sig .tc .vmem S64x320x768 .i8) (harg16 : arg16.IsWhole) (arg17 : Memref sig .tc .vmem S64x1x768 .f32) (harg17 : arg17.IsWhole) (arg18 : Memref sig .tc .vmem S64x320x768 .f32) (harg18 : arg18.IsWhole) (arg19 : Memref sig .tc .vmem S64x4x80x768 .f32) (harg19 : arg19.IsWhole) (arg20 : Memref sig .tc .vmem S64x768x1280 .i8) (harg20 : arg20.IsWhole) (arg21 : Memref sig .tc .vmem S64x768x1280 .f32) (harg21 : arg21.IsWhole) (v18 : Vec F S1x1 .f32) (X_arg0 : BufTy.Contents (Elt F) arg0.view.ty) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty)

/-- A step's loads. -/
def ld (k : Fin k0_t1_loop.trips) : Ld F where
  live := k0_pay8 0#32 1#32 k (View.readAt (Elt F) arg2.view rectN.toLoadRect X_arg2)
  x := View.readAt (Elt F) arg0.view (rectX k).toLoadRect X_arg0
  xs := View.readAt (Elt F) arg1.view (rectXs k).toLoadRect X_arg1
  wx g := View.readAt (Elt F) arg4.view (rectW g).toLoadRect X_arg4
  wxs g := View.readAt (Elt F) arg5.view (rectV g).toLoadRect X_arg5
  wh g := View.readAt (Elt F) arg6.view (rectW g).toLoadRect X_arg6
  whs g := View.readAt (Elt F) arg7.view (rectV g).toLoadRect X_arg7
  gain g := View.readAt (Elt F) arg8.view (rectV g).toLoadRect X_arg8
  bias g := View.readAt (Elt F) arg9.view (rectV g).toLoadRect X_arg9
  wp := View.readAt (Elt F) arg10.view rectWp.toLoadRect X_arg10
  wps := View.readAt (Elt F) arg11.view rectWps.toLoadRect X_arg11
  ms := k0_pay5 v18

theorem trip_next (k : Fin k0_t1_loop.trips) (acc : Carry F) :
    tripR_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v18 X_arg0 X_arg1 X_arg2 X_arg4 X_arg5 X_arg6 X_arg7 X_arg8 X_arg9 X_arg10 X_arg11 k acc = next (ld arg0 arg1 arg2 arg4 arg5 arg6 arg7 arg8 arg9 arg10 arg11 v18 X_arg0 X_arg1 X_arg2 X_arg4 X_arg5 X_arg6 X_arg7 X_arg8 X_arg9 X_arg10 X_arg11 k) acc := by
  sl_kernel_rfl

theorem trip_lists (k : Fin k0_t1_loop.trips) (acc : Carry F) :
    tripL_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v18 X_arg0 X_arg1 X_arg2 X_arg4 X_arg5 X_arg6 X_arg7 X_arg8 X_arg9 X_arg10 X_arg11 k acc =
      ([⟨rectH k, outH (ld arg0 arg1 arg2 arg4 arg5 arg6 arg7 arg8 arg9 arg10 arg11 v18 X_arg0 X_arg1 X_arg2 X_arg4 X_arg5 X_arg6 X_arg7 X_arg8 X_arg9 X_arg10 X_arg11 k) acc⟩], [⟨rectS k, outS (ld arg0 arg1 arg2 arg4 arg5 arg6 arg7 arg8 arg9 arg10 arg11 v18 X_arg0 X_arg1 X_arg2 X_arg4 X_arg5 X_arg6 X_arg7 X_arg8 X_arg9 X_arg10 X_arg11 k) acc⟩], [⟨rectH k, outHf (ld arg0 arg1 arg2 arg4 arg5 arg6 arg7 arg8 arg9 arg10 arg11 v18 X_arg0 X_arg1 X_arg2 X_arg4 X_arg5 X_arg6 X_arg7 X_arg8 X_arg9 X_arg10 X_arg11 k) acc⟩],
        [⟨rectG k 3, outGh (ld arg0 arg1 arg2 arg4 arg5 arg6 arg7 arg8 arg9 arg10 arg11 v18 X_arg0 X_arg1 X_arg2 X_arg4 X_arg5 X_arg6 X_arg7 X_arg8 X_arg9 X_arg10 X_arg11 k) acc 3⟩, ⟨rectG k 2, outGh (ld arg0 arg1 arg2 arg4 arg5 arg6 arg7 arg8 arg9 arg10 arg11 v18 X_arg0 X_arg1 X_arg2 X_arg4 X_arg5 X_arg6 X_arg7 X_arg8 X_arg9 X_arg10 X_arg11 k) acc 2⟩, ⟨rectG k 1, outGh (ld arg0 arg1 arg2 arg4 arg5 arg6 arg7 arg8 arg9 arg10 arg11 v18 X_arg0 X_arg1 X_arg2 X_arg4 X_arg5 X_arg6 X_arg7 X_arg8 X_arg9 X_arg10 X_arg11 k) acc 1⟩,
          ⟨rectG k 0, outGh (ld arg0 arg1 arg2 arg4 arg5 arg6 arg7 arg8 arg9 arg10 arg11 v18 X_arg0 X_arg1 X_arg2 X_arg4 X_arg5 X_arg6 X_arg7 X_arg8 X_arg9 X_arg10 X_arg11 k) acc 0⟩],
        [⟨rectC k, outM (ld arg0 arg1 arg2 arg4 arg5 arg6 arg7 arg8 arg9 arg10 arg11 v18 X_arg0 X_arg1 X_arg2 X_arg4 X_arg5 X_arg6 X_arg7 X_arg8 X_arg9 X_arg10 X_arg11 k) acc⟩], [⟨rectC k, outC (ld arg0 arg1 arg2 arg4 arg5 arg6 arg7 arg8 arg9 arg10 arg11 v18 X_arg0 X_arg1 X_arg2 X_arg4 X_arg5 X_arg6 X_arg7 X_arg8 X_arg9 X_arg10 X_arg11 k) acc⟩]) := by
  sl_kernel_rfl

end Cert.Proof.Ref
end
-- ==== Proof.Codes.lean ====
/-
  Codes are integers between -127 and 127, so an eight-bit integer holds them.
-/
module

public import proofs.«01_k».proof.Proof.Problem

@[expose] public section

noncomputable section

namespace Cert.Proof.Spec

open Idealize.ShloMosaic

theorem c127_eq : c127 = ((127 : ℝ) : EReal) := by
  simp [c127, Ideal.ofBits, Ideal.ieee]
  rw [← EReal.coe_mul]
  norm_num

theorem cm127_eq : cm127 = ((-127 : ℝ) : EReal) := by
  simp [cm127, Ideal.ofBits, Ideal.ieee]
  rw [← EReal.coe_mul]
  norm_num

theorem min_coe (a b : ℝ) : min (a : EReal) b = ((min a b : ℝ) : EReal) := (EReal.coe_strictMono.monotone.map_min).symm
theorem max_coe (a b : ℝ) : max (a : EReal) b = ((max a b : ℝ) : EReal) := (EReal.coe_strictMono.monotone.map_max).symm

/-- A code is an integer between -127 and 127. -/
theorem code_int (v s : EReal) : ∃ z : ℤ, -127 ≤ z ∧ z ≤ 127 ∧ code v s = ((z : ℝ) : EReal) := by
  unfold code clip
  rw [c127_eq, cm127_eq]
  generalize Ideal.div v s = q
  induction q with
  | bot => exact ⟨-127, by omega, by omega, by rw [Ideal.liftRound_bot, max_eq_left bot_le, min_coe]; norm_num⟩
  | top => exact ⟨127, by omega, by omega, by rw [Ideal.liftRound_top, max_eq_right le_top, min_eq_left le_top]; norm_num⟩
  | coe r =>
    refine ⟨min 127 (max (-127) (Ideal.roundHalfEven r)), by omega, by omega, ?_⟩
    rw [Ideal.liftRound_coe, max_coe, min_coe]
    push_cast
    rfl

theorem toInt_fptosi (z : ℤ) (h1 : -128 ≤ z) (h2 : z ≤ 127) : (Ideal.fptosi 8 ((z : ℝ) : EReal)).toInt = z := by
  unfold Ideal.fptosi
  have e : Ideal.toIntClamped (-(2 ^ (8 - 1) : Nat)) ((2 ^ (8 - 1) : Nat) - 1) ((z : ℝ) : EReal) = z := by
    rw [Ideal.toIntClamped_coe]
    simp
    omega
  rw [e, BitVec.toInt_ofInt]
  exact Int.bmod_eq_of_le (by omega) (by omega)

/-- Reading a code back from eight bits. -/
theorem num_code (v s : EReal) : num (FloatOps.fptosi (F := Ideal) (φ := .f32) 8 (code v s)) = code v s := by
  obtain ⟨z, h1, h2, e⟩ := code_int v s
  rw [e]
  show (((Ideal.fptosi 8 ((z : ℝ) : EReal)).toInt : ℝ) : EReal) = _
  rw [toInt_fptosi z (by omega) h2]

/-- An eight-bit integer survives the round trip. -/
theorem fptosi_num (b : BitVec 8) : FloatOps.fptosi (F := Ideal) (φ := .bf16) 8 (num b) = b := by
  apply BitVec.eq_of_toInt_eq
  show (Ideal.fptosi 8 ((b.toInt : ℝ) : EReal)).toInt = _
  have h1 := BitVec.le_toInt b
  have h2 := BitVec.toInt_lt (x := b)
  exact toInt_fptosi _ (by simpa using h1) (by simp at h2; omega)

theorem fptosi_zero : FloatOps.fptosi (F := Ideal) (φ := .f32) 8 (0 : EReal) = 0#8 := by
  apply BitVec.eq_of_toInt_eq
  have h := toInt_fptosi 0 (by omega) (by omega)
  show (Ideal.fptosi 8 0).toInt = 0
  simpa using h

theorem num_zero : num 0#8 = 0 := by
  show (((0#8 : BitVec 8).toInt : ℝ) : EReal) = 0
  simp

end Cert.Proof.Spec
end
-- ==== Proof.RefLane.lean ====
/-
  The reference's step, read at an entry.
-/
module

public import proofs.«01_k».proof.Proof.RefModel
public import proofs.«01_k».proof.Proof.Codes

@[expose] public section

set_option maxRecDepth 16384

noncomputable section

namespace Cert.Proof.Ref

open Cert.ReferenceIdeal Cert.ReferenceIdeal.Gen Idealize.ShloMosaic Idealize.ShloMosaic.TcCoe Idealize.SL.Sem Idealize.ShloMosaic.Tactic
open Cert.Proof.Spec (num clip code scaleOf)

theorem gh_at (h : IVec S768x320 8) (s : FVec Ideal S768x1 .f32) (w : Vec Ideal S1x1280x320 .i8) (ws : Vec Ideal S1x1x1280 .f32)
    (b : Fin 768) (n : Fin 1280) : k0_pay10 h s w ws (ix2 b n)
    = (∑ k : Fin 320, num (h (ix2 b k)) * num (w (ix3 0 n k))) * s (ix2 b 0) * ws (ix3 0 0 n) := by
  pointwise [k0_pay10]

theorem z_at (h : IVec S768x320 8) (s : FVec Ideal S768x1 .f32) (x : Vec Ideal S1x768x320 .i8) (wx : Vec Ideal S1x1280x320 .i8)
    (xs : Vec Ideal S1x768x1 .f32) (wxs : Vec Ideal S1x1x1280 .f32) (w : Vec Ideal S1x1280x320 .i8) (ws : Vec Ideal S1x1x1280 .f32)
    (b : Fin 768) (n : Fin 1280) : k0_pay11 h s x wx xs wxs w ws (ix2 b n)
    = (∑ k : Fin 320, num (x (ix3 0 b k)) * num (wx (ix3 0 n k))) * xs (ix3 0 b 0) * wxs (ix3 0 0 n)
      + (∑ k : Fin 320, num (h (ix2 b k)) * num (w (ix3 0 n k))) * s (ix2 b 0) * ws (ix3 0 0 n) := by
  pointwise [k0_pay11, k0_pay9, k0_pay10]

theorem zn_at (v : FVec Ideal S768x1280 .f32) (g bi : Vec Ideal S1x1x1280 .f32) (b : Fin 768) (n : Fin 1280) :
    k0_pay13 v (k0_pay12 g) bi (ix2 b n)
    = Spec.cent (fun n => v (ix2 b n)) n * Spec.rstd (Spec.cent fun n => v (ix2 b n)) * g (ix3 0 0 n) + bi (ix3 0 0 n) := by
  unfold Spec.cent Spec.rstd
  pointwise [k0_pay13, k0_pay12]

theorem cNew_at (c u0 u1 u2 : FVec Ideal S768x1280 .f32) (b : Fin 768) (n : Fin 1280) : k0_pay32 c u0 u1 u2 (ix2 b n)
    = clip Spec.cLo Spec.cHi (Ideal.logistic (u1 (ix2 b n)) * c (ix2 b n) + Ideal.logistic (u0 (ix2 b n)) * Ideal.tanh (u2 (ix2 b n))) := by
  unfold clip
  pointwise [k0_pay32]

theorem scale_at (v : FVec Ideal S768x320 .f32) (b : Fin 768) : k0_pay35 v (ix2 b 0) = scaleOf fun r => v (ix2 b r) := by
  unfold scaleOf
  pointwise [k0_pay35]

theorem h_at (h : IVec S768x320 8) (live : IVec S768x1 1) (v : FVec Ideal S768x320 .f32) (b : Fin 768) (r : Fin 320) :
    k0_pay36 h live v (ix2 b r) = Scalar.select (live (ix2 b 0))
      (FloatOps.fptosi (F := Ideal) (φ := .f32) 8 (code (v (ix2 b r)) (scaleOf fun r => v (ix2 b r)))) (h (ix2 b r)) := by
  unfold code clip
  rw [← scale_at]
  pointwise [k0_pay36]

theorem s_at (s : FVec Ideal S768x1 .f32) (live : IVec S768x1 1) (v : FVec Ideal S768x320 .f32) (b : Fin 768) :
    k0_pay37 s live v (ix2 b 0) = Scalar.select (live (ix2 b 0)) (scaleOf fun r => v (ix2 b r)) (s (ix2 b 0)) := by
  rw [← scale_at]
  pointwise [k0_pay37]

theorem c_at (c : FVec Ideal S768x1280 .f32) (live : IVec S768x1 1) (v : FVec Ideal S768x1280 .f32) (b : Fin 768) (n : Fin 1280) :
    k0_pay38 c live v (ix2 b n) = Scalar.select (live (ix2 b 0)) (v (ix2 b n)) (c (ix2 b n)) := by
  pointwise [k0_pay38]

variable (l : Ld Ideal) (a : Carry Ideal)

theorem codes_at (b : Fin 768) (n : Fin 1280) : codes l a (ix2 b n) = FloatOps.fptosi (F := Ideal) (φ := .f32) 8
    (code (Ideal.logistic (zn l a 3 (ix2 b n)) * Ideal.tanh (cNew l a (ix2 b n))) l.ms) := by
  unfold codes code clip
  pointwise

theorem hf_at (b : Fin 768) (r : Fin 320) : hf l a (ix2 b r)
    = (∑ n : Fin 1280, num (codes l a (ix2 b n)) * num (l.wp (ix2 r n))) * l.ms * l.wps (ix2 0 r) := by
  unfold hf
  pointwise

theorem outH_at (r : Fin 320) (b : Fin 768) : outH l a (ix3 0 r b) = (next l a).1 (ix2 b r) := by
  unfold outH next
  pointwise [k0_pay39]

theorem outS_at (b : Fin 768) : outS l a (ix3 0 0 b) = (next l a).2.1 (ix2 b 0) := by
  unfold outS next
  pointwise [k0_pay40]

theorem outHf_at (r : Fin 320) (b : Fin 768) : outHf l a (ix3 0 r b) = Scalar.select (l.live (ix2 b 0)) (hf l a (ix2 b r)) 0 := by
  unfold outHf
  pointwise [k0_pay41]

theorem outGh_at (g : Fin 4) (p : Fin 80) (b : Fin 768) : outGh l a g (ix4 0 0 p b)
    = Scalar.select (l.live (ix2 b 0)) (gh l a g (ix2 b ⟨p.val, by omega⟩)) 0 := by
  unfold outGh
  pointwise [k0_pay14]

theorem outM_at (b : Fin 768) (n : Fin 1280) : outM l a (ix3 0 b n) = Scalar.select (l.live (ix2 b 0)) (codes l a (ix2 b n)) 0#8 := by
  unfold outM
  pointwise [k0_pay6]

theorem outC_at (b : Fin 768) (n : Fin 1280) : outC l a (ix3 0 b n) = (next l a).2.2 (ix2 b n) := by
  unfold outC next
  pointwise [k0_pay7]

theorem init_h (r : Vec Ideal S768x1 .i32) (h : Vec Ideal S768x320 .i8) (b : Fin 768) (k : Fin 320) :
    k0_pay2 (F := Ideal) r h (ix2 b k) = FloatOps.fptosi (F := Ideal) (φ := .f32) 8
      (Scalar.select (Spec.fresh (r (ix2 b 0))) 0 (num (h (ix2 b k)))) := by
  pointwise [k0_pay2, k0_pay1]
  rfl

theorem init_s (s : Vec Ideal S768x1 .f32) (b : Fin 768) : k0_pay3 s (ix2 b 0) = s (ix2 b 0) := by
  pointwise [k0_pay3]

theorem init_c (r : Vec Ideal S768x1 .i32) (c : Vec Ideal S768x1280 .f32) (b : Fin 768) (n : Fin 1280) :
    k0_pay4 r c (ix2 b n) = Scalar.select (Spec.fresh (r (ix2 b 0))) 0 (c (ix2 b n)) := by
  pointwise [k0_pay4, k0_pay1]

end Cert.Proof.Ref
end
-- ==== Proof.RefRow.lean ====
/-
  The reference's step on what it carries is the specification's step, row by row.
-/
module

public import proofs.«01_k».proof.Proof.RefLane

@[expose] public section

set_option maxRecDepth 16384

noncomputable section

namespace Cert.Proof.Ref

open Cert.ReferenceIdeal Cert.ReferenceIdeal.Gen Idealize.ShloMosaic Idealize.ShloMosaic.TcCoe Idealize.SL.Sem Idealize.ShloMosaic.Tactic
open Cert.Proof.Spec (num stacked)

/-- The loads of step `t`, entry by entry. -/
structure Reads (A : Spec.Args) (l : Ld Ideal) (t : Nat) : Prop where
  live : ∀ b : Fin 768, l.live (ix2 b 0) = A.on b t
  x : ∀ (b : Fin 768) (k : Fin 320), l.x (ix3 0 b k) = A.x b (Fin.ofNat 64 t) k
  xs : ∀ b : Fin 768, l.xs (ix3 0 b 0) = A.xs b (Fin.ofNat 64 t)
  wx : ∀ (g : Fin 4) (n : Fin 1280) (k : Fin 320), l.wx g (ix3 0 n k) = A.wx (stacked g n) k
  wxs : ∀ (g : Fin 4) (n : Fin 1280), l.wxs g (ix3 0 0 n) = A.wxs (stacked g n)
  wh : ∀ (g : Fin 4) (n : Fin 1280) (k : Fin 320), l.wh g (ix3 0 n k) = A.wh (stacked g n) k
  whs : ∀ (g : Fin 4) (n : Fin 1280), l.whs g (ix3 0 0 n) = A.whs (stacked g n)
  gain : ∀ (g : Fin 4) (n : Fin 1280), l.gain g (ix3 0 0 n) = A.gain g n
  bias : ∀ (g : Fin 4) (n : Fin 1280), l.bias g (ix3 0 0 n) = A.bias g n
  wp : ∀ (r : Fin 320) (n : Fin 1280), l.wp (ix2 r n) = A.wp r n
  wps : ∀ r : Fin 320, l.wps (ix2 0 r) = A.wps r
  ms : l.ms = A.ms

/-- What is carried into step `t`, entry by entry. -/
structure Holds (A : Spec.Args) (a : Carry Ideal) (t : Nat) : Prop where
  h : ∀ (b : Fin 768) (k : Fin 320), num (a.1 (ix2 b k)) = (A.state b t).h k
  s : ∀ b : Fin 768, a.2.1 (ix2 b 0) = (A.state b t).s
  c : ∀ (b : Fin 768) (n : Fin 1280), a.2.2 (ix2 b n) = (A.state b t).c n

variable {A : Spec.Args} {l : Ld Ideal} {a : Carry Ideal} {t : Nat} (R : Reads A l t) (H : Holds A a t)
include R H

theorem gh_row (g : Fin 4) (b : Fin 768) (n : Fin 1280) : gh l a g (ix2 b n) = Spec.gh A.W (A.state b t) g n := by
  unfold gh
  rw [gh_at, R.whs, H.s]
  simp only [R.wh, H.h]
  rfl

theorem z_row (g : Fin 4) (b : Fin 768) (n : Fin 1280) :
    z l a g (ix2 b n) = Spec.z A.W (A.frame b t) (A.frameS b t) (A.state b t) g n := by
  unfold z
  rw [z_at, R.whs, H.s, R.xs, R.wxs]
  simp only [R.wh, H.h, R.x, R.wx]
  rfl

theorem zn_row (g : Fin 4) (b : Fin 768) (n : Fin 1280) :
    zn l a g (ix2 b n) = Spec.zn A.W (A.frame b t) (A.frameS b t) (A.state b t) g n := by
  unfold zn
  rw [zn_at, R.gain, R.bias, show (fun n => z l a g (ix2 b n)) = _ from funext fun n => z_row R H g b n]
  rfl

theorem cNew_row (b : Fin 768) (n : Fin 1280) :
    cNew l a (ix2 b n) = Spec.cNew A.W (A.frame b t) (A.frameS b t) (A.state b t) n := by
  unfold cNew
  rw [cNew_at, zn_row R H, zn_row R H, zn_row R H, H.c]
  rfl

theorem codes_row (b : Fin 768) (n : Fin 1280) : codes l a (ix2 b n) = FloatOps.fptosi (F := Ideal) (φ := .f32) 8
    (Spec.m A.W (A.frame b t) (A.frameS b t) (A.state b t) n) := by
  rw [codes_at, zn_row R H, cNew_row R H, R.ms]
  rfl

theorem hf_row (b : Fin 768) (r : Fin 320) :
    hf l a (ix2 b r) = Spec.hf A.W (A.frame b t) (A.frameS b t) (A.state b t) r := by
  rw [hf_at, R.ms, R.wps]
  simp only [codes_row R H, R.wp, Spec.m, Spec.num_code]
  rfl

omit R H in
/-- A selected code, as a number. -/
theorem num_select (p : BitVec 1) (v s : EReal) (h : BitVec 8) (q : EReal) (hq : num h = q) :
    num (Scalar.select p (FloatOps.fptosi (F := Ideal) (φ := .f32) 8 (Spec.code v s)) h) = Scalar.select p (Spec.code v s) q := by
  subst hq
  unfold Scalar.select
  split
  · exact Spec.num_code v s
  · rfl

/-- The step. -/
theorem next_holds : Holds A (next l a) (t + 1) where
  h b k := by
    show num (k0_pay36 a.1 l.live (hf l a) (ix2 b k)) = _
    rw [h_at, R.live, num_select _ _ _ _ _ (H.h b k), hf_row R H, show (fun r => hf l a (ix2 b r)) = _ from funext fun r => hf_row R H b r]
    rfl
  s b := by
    show k0_pay37 a.2.1 l.live (hf l a) (ix2 b 0) = _
    rw [s_at, R.live, H.s, show (fun r => hf l a (ix2 b r)) = _ from funext fun r => hf_row R H b r]
    rfl
  c b n := by
    show k0_pay38 a.2.2 l.live (cNew l a) (ix2 b n) = _
    rw [c_at, R.live, H.c, cNew_row R H]
    rfl

theorem outH_row (r : Fin 320) (b : Fin 768) : outH l a (ix3 0 r b) = A.outH t r b := by
  rw [outH_at, ← Spec.fptosi_num ((next l a).1 (ix2 b r)), (next_holds R H).h]
  rfl

theorem outS_row (b : Fin 768) : outS l a (ix3 0 0 b) = A.outS t b := by
  rw [outS_at, (next_holds R H).s]
  rfl

theorem outHf_row (r : Fin 320) (b : Fin 768) : outHf l a (ix3 0 r b) = A.outHf t r b := by
  rw [outHf_at, R.live, hf_row R H]
  rfl

theorem outGh_row (g : Fin 4) (p : Fin 80) (b : Fin 768) : outGh l a g (ix4 0 0 p b) = A.outGh t g p b := by
  rw [outGh_at, R.live, gh_row R H]
  rfl

theorem outM_row (b : Fin 768) (n : Fin 1280) : outM l a (ix3 0 b n) = A.outM t b n := by
  rw [outM_at, R.live, codes_row R H]
  unfold Spec.Args.outM Scalar.select
  split
  · rfl
  · exact Spec.fptosi_zero.symm

theorem outC_row (b : Fin 768) (n : Fin 1280) : outC l a (ix3 0 b n) = A.outC t b n := by
  rw [outC_at, (next_holds R H).c]
  rfl

end Cert.Proof.Ref
end
-- ==== Proof.RefInv.lean ====
/-
  What the reference's loop has stored before a step: every earlier step's results.
-/
module

public import proofs.«01_k».proof.Proof.RefRow

@[expose] public section

set_option maxRecDepth 16384

noncomputable section

namespace Cert.Proof.Ref

open Cert.ReferenceIdeal Cert.ReferenceIdeal.Gen Idealize.ShloMosaic Idealize.ShloMosaic.TcCoe Idealize.SL.Sem Idealize.ShloMosaic.Tactic

/-- One step's slab in front of the earlier ones. -/
theorem canon3 {n1 n2 : Nat} {e : EltTy} (off : Fin 3 → Nat) (k : Nat) (hoff : off = ![k, 0, 0])
    (inb : ∀ a, off a + (⟨3, ![1, n1, n2]⟩ : Shape).size a ≤ (⟨3, ![64, n1, n2]⟩ : Shape).size a)
    (w : (⟨3, ![1, n1, n2]⟩ : Shape).Idx → Elt Ideal e) (L : List (View.Piece (Elt Ideal) ⟨3, ![64, n1, n2]⟩ e))
    (t : Fin 64) (i : Fin n1) (j : Fin n2) :
    View.canon ((⟨Rect.unit (s := ⟨3, ![64, n1, n2]⟩) off (⟨3, ![1, n1, n2]⟩ : Shape).size inb, w⟩ : View.Piece (Elt Ideal) ⟨3, ![64, n1, n2]⟩ e) :: L)
      (ix3 t i j) = if t.val = k then w (ix3 0 i j) else View.canon L (ix3 t i j) := by
  subst hoff
  split
  · rename_i h
    have e : (Rect.unit (s := ⟨3, ![64, n1, n2]⟩) ![k, 0, 0] (⟨3, ![1, n1, n2]⟩ : Shape).size inb).emb (ix3 0 i j) = ix3 t i j := by
      funext a; apply Fin.ext
      match a with
      | ⟨0, _⟩ => show k + 1 * 0 = t.val; omega
      | ⟨1, _⟩ => show 0 + 1 * i.val = i.val; omega
      | ⟨2, _⟩ => show 0 + 1 * j.val = j.val; omega
    rw [← e]
    exact View.canon_cons_emb (Rect.unit (s := ⟨3, ![64, n1, n2]⟩) ![k, 0, 0] (⟨3, ![1, n1, n2]⟩ : Shape).size inb) w L (ix3 0 i j)
  · rename_i h
    refine View.canon_cons_of_not_mem _ _ fun hm => h ?_
    obtain ⟨x, hx⟩ := (Rect.unit (s := ⟨3, ![64, n1, n2]⟩) ![k, 0, 0] (⟨3, ![1, n1, n2]⟩ : Shape).size inb).exists_idx_of_mem hm
    have h0 : k + 1 * (x 0).val = t.val := congrArg (fun y => (y 0).val) hx
    have h1 : (x 0).val < 1 := (x 0).isLt
    omega

theorem canon4 {n1 n2 n3 : Nat} {e : EltTy} (off : Fin 4 → Nat) (k g : Nat) (hoff : off = ![k, g, 0, 0])
    (inb : ∀ a, off a + (⟨4, ![1, 1, n2, n3]⟩ : Shape).size a ≤ (⟨4, ![64, n1, n2, n3]⟩ : Shape).size a)
    (w : (⟨4, ![1, 1, n2, n3]⟩ : Shape).Idx → Elt Ideal e) (L : List (View.Piece (Elt Ideal) ⟨4, ![64, n1, n2, n3]⟩ e))
    (t : Fin 64) (q : Fin n1) (i : Fin n2) (j : Fin n3) :
    View.canon ((⟨Rect.unit (s := ⟨4, ![64, n1, n2, n3]⟩) off (⟨4, ![1, 1, n2, n3]⟩ : Shape).size inb, w⟩ :
        View.Piece (Elt Ideal) ⟨4, ![64, n1, n2, n3]⟩ e) :: L) (ix4 t q i j)
      = if t.val = k ∧ q.val = g then w (ix4 0 0 i j) else View.canon L (ix4 t q i j) := by
  subst hoff
  split
  · rename_i h
    have e : (Rect.unit (s := ⟨4, ![64, n1, n2, n3]⟩) ![k, g, 0, 0] (⟨4, ![1, 1, n2, n3]⟩ : Shape).size inb).emb (ix4 0 0 i j) = ix4 t q i j := by
      funext a; apply Fin.ext
      match a with
      | ⟨0, _⟩ => show k + 1 * 0 = t.val; omega
      | ⟨1, _⟩ => show g + 1 * 0 = q.val; omega
      | ⟨2, _⟩ => show 0 + 1 * i.val = i.val; omega
      | ⟨3, _⟩ => show 0 + 1 * j.val = j.val; omega
    rw [← e]
    exact View.canon_cons_emb (Rect.unit (s := ⟨4, ![64, n1, n2, n3]⟩) ![k, g, 0, 0] (⟨4, ![1, 1, n2, n3]⟩ : Shape).size inb) w L (ix4 0 0 i j)
  · rename_i h
    refine View.canon_cons_of_not_mem _ _ fun hm => h ?_
    obtain ⟨x, hx⟩ := (Rect.unit (s := ⟨4, ![64, n1, n2, n3]⟩) ![k, g, 0, 0] (⟨4, ![1, 1, n2, n3]⟩ : Shape).size inb).exists_idx_of_mem hm
    have h0 : k + 1 * (x 0).val = t.val := congrArg (fun y => (y 0).val) hx
    have h1 : (x 0).val < 1 := (x 0).isLt
    have h2 : g + 1 * (x 1).val = q.val := congrArg (fun y => (y 1).val) hx
    have h3 : (x 1).val < 1 := (x 1).isLt
    omega

theorem off1 : ∀ k : Fin k0_t1_loop.trips, k0_off1 k = ![k.val, 0, 0] := by decide +kernel
theorem off2 : ∀ k : Fin k0_t1_loop.trips, k0_off2 k = ![k.val, 0, 0] := by decide +kernel
theorem off3 : ∀ k : Fin k0_t1_loop.trips, k0_off3 k = ![k.val, 0, 0, 0] := by decide +kernel
theorem off4 : ∀ k : Fin k0_t1_loop.trips, k0_off4 k = ![k.val, 1, 0, 0] := by decide +kernel
theorem off5 : ∀ k : Fin k0_t1_loop.trips, k0_off5 k = ![k.val, 2, 0, 0] := by decide +kernel
theorem off6 : ∀ k : Fin k0_t1_loop.trips, k0_off6 k = ![k.val, 3, 0, 0] := by decide +kernel
theorem off7 : ∀ k : Fin k0_t1_loop.trips, k0_off7 k = ![k.val, 0, 0] := by decide +kernel
theorem off8 : ∀ k : Fin k0_t1_loop.trips, k0_off8 k = ![k.val, 0, 0] := by decide +kernel
theorem off9 : ∀ k : Fin k0_t1_loop.trips, k0_off9 k = ![k.val, 0, 0] := by decide +kernel
theorem trips : k0_t1_loop.trips = 64 := by decide +kernel

/-- What is carried, and the stores so far. -/
abbrev Stored : Type := Carry Ideal × List (View.Piece (Elt Ideal) S64x320x768 .i8) × List (View.Piece (Elt Ideal) S64x1x768 .f32)
  × List (View.Piece (Elt Ideal) S64x320x768 .f32) × List (View.Piece (Elt Ideal) S64x4x80x768 .f32)
  × List (View.Piece (Elt Ideal) S64x768x1280 .i8) × List (View.Piece (Elt Ideal) S64x768x1280 .f32)

/-- Before step `n`: the carried state, and the results of the steps before. -/
structure Inv (A : Spec.Args) (n : Nat) (q : Stored) : Prop where
  holds : Holds A q.1 n
  h : ∀ t : Fin 64, t.val < n → ∀ (r : Fin 320) (b : Fin 768), View.canon q.2.1 (ix3 t r b) = A.outH t r b
  s : ∀ t : Fin 64, t.val < n → ∀ b : Fin 768, View.canon q.2.2.1 (ix3 t 0 b) = A.outS t b
  hf : ∀ t : Fin 64, t.val < n → ∀ (r : Fin 320) (b : Fin 768), View.canon q.2.2.2.1 (ix3 t r b) = A.outHf t r b
  gh : ∀ t : Fin 64, t.val < n → ∀ (g : Fin 4) (p : Fin 80) (b : Fin 768), View.canon q.2.2.2.2.1 (ix4 t g p b) = A.outGh t g p b
  m : ∀ t : Fin 64, t.val < n → ∀ (b : Fin 768) (n : Fin 1280), View.canon q.2.2.2.2.2.1 (ix3 t b n) = A.outM t b n
  c : ∀ t : Fin 64, t.val < n → ∀ (b : Fin 768) (n : Fin 1280), View.canon q.2.2.2.2.2.2 (ix3 t b n) = A.outC t b n

theorem inv_zero {A : Spec.Args} {a : Carry Ideal} (h : Holds A a 0) : Inv A 0 (a, [], [], [], [], [], []) where
  holds := h
  h t ht := absurd ht (by omega)
  s t ht := absurd ht (by omega)
  hf t ht := absurd ht (by omega)
  gh t ht := absurd ht (by omega)
  m t ht := absurd ht (by omega)
  c t ht := absurd ht (by omega)

/-- A step's results in front of the earlier ones'. -/
theorem inv_succ {A : Spec.Args} {k : Fin k0_t1_loop.trips} {s : Stored} {l : Ld Ideal} (I : Inv A k.val s) (R : Reads A l k.val) :
    Inv A (k.val + 1) (next l s.1, [⟨rectH k, outH l s.1⟩] ++ s.2.1, [⟨rectS k, outS l s.1⟩] ++ s.2.2.1, [⟨rectH k, outHf l s.1⟩] ++ s.2.2.2.1,
      [⟨rectG k 3, outGh l s.1 3⟩, ⟨rectG k 2, outGh l s.1 2⟩, ⟨rectG k 1, outGh l s.1 1⟩, ⟨rectG k 0, outGh l s.1 0⟩] ++ s.2.2.2.2.1,
      [⟨rectC k, outM l s.1⟩] ++ s.2.2.2.2.2.1, [⟨rectC k, outC l s.1⟩] ++ s.2.2.2.2.2.2) where
  holds := next_holds R I.holds
  h t ht r b := by
    refine (canon3 (e := .i8) _ _ (off7 k) _ (outH l s.1) s.2.1 t r b).trans ?_
    split
    · rename_i h; rw [h]; exact outH_row R I.holds r b
    · exact I.h t (by omega) r b
  s t ht b := by
    refine (canon3 (e := .f32) _ _ (off8 k) _ (outS l s.1) s.2.2.1 t 0 b).trans ?_
    split
    · rename_i h; rw [h]; exact outS_row R I.holds b
    · exact I.s t (by omega) b
  hf t ht r b := by
    refine (canon3 (e := .f32) _ _ (off7 k) _ (outHf l s.1) s.2.2.2.1 t r b).trans ?_
    split
    · rename_i h; rw [h]; exact outHf_row R I.holds r b
    · exact I.hf t (by omega) r b
  gh t ht g p b := by
    refine (canon4 (e := .f32) _ _ _ (off6 k) (k0_off6_inb k) (outGh l s.1 3) _ t g p b).trans ?_
    split
    · rename_i h; rw [h.1, show g = 3 from Fin.ext h.2]; exact outGh_row R I.holds 3 p b
    refine (canon4 (e := .f32) _ _ _ (off5 k) (k0_off5_inb k) (outGh l s.1 2) _ t g p b).trans ?_
    split
    · rename_i h; rw [h.1, show g = 2 from Fin.ext h.2]; exact outGh_row R I.holds 2 p b
    refine (canon4 (e := .f32) _ _ _ (off4 k) (k0_off4_inb k) (outGh l s.1 1) _ t g p b).trans ?_
    split
    · rename_i h; rw [h.1, show g = 1 from Fin.ext h.2]; exact outGh_row R I.holds 1 p b
    refine (canon4 (e := .f32) _ _ _ (off3 k) (k0_off3_inb k) (outGh l s.1 0) _ t g p b).trans ?_
    split
    · rename_i h; rw [h.1, show g = 0 from Fin.ext h.2]; exact outGh_row R I.holds 0 p b
    exact I.gh t (by omega) g p b
  m t ht b n := by
    refine (canon3 (e := .i8) _ _ (off9 k) _ (outM l s.1) s.2.2.2.2.2.1 t b n).trans ?_
    split
    · rename_i h; rw [h]; exact outM_row R I.holds b n
    · exact I.m t (by omega) b n
  c t ht b n := by
    refine (canon3 (e := .f32) _ _ (off9 k) _ (outC l s.1) s.2.2.2.2.2.2 t b n).trans ?_
    split
    · rename_i h; rw [h]; exact outC_row R I.holds b n
    · exact I.c t (by omega) b n

end Cert.Proof.Ref
end
-- ==== Proof.RefRun.lean ====
/-
  The reference stores every step's results.
-/
module

public import proofs.«01_k».proof.Proof.RefInv
public import Idealize.ShloMosaic.Lib.WholeRead

@[expose] public section

set_option maxRecDepth 16384

noncomputable section

namespace Cert.Proof.Ref

open Cert.Proof.Spec (num)
open Cert.ReferenceIdeal Cert.ReferenceIdeal.Gen Idealize.ShloMosaic Idealize.ShloMosaic.TcCoe Idealize.SL.Sem Idealize.ShloMosaic.Tactic

def rectMs : Rect S1x1 := Rect.unit ![0, 0] S1x1.size (by intro a; fin_cases a <;> decide)
def rectH0 : Rect S768x320 := Rect.unit ![0, 0] S768x320.size (by intro a; fin_cases a <;> decide)
def rectC0 : Rect S768x1280 := Rect.unit ![0, 0] S768x1280.size (by intro a; fin_cases a <;> decide)

/-- The input arrays, entry by entry. -/
structure Ins (A : Spec.Args) (x0 : Vec Ideal S64x768x320 .i8) (x1 : Vec Ideal S64x768x1 .f32) (x2 : Vec Ideal S768x1 .i32) (x3 : Vec Ideal S768x1 .i32) (x4 : Vec Ideal S4x1280x320 .i8) (x5 : Vec Ideal S4x1x1280 .f32) (x6 : Vec Ideal S4x1280x320 .i8) (x7 : Vec Ideal S4x1x1280 .f32) (x8 : Vec Ideal S4x1x1280 .f32) (x9 : Vec Ideal S4x1x1280 .f32) (x10 : Vec Ideal S320x1280 .i8) (x11 : Vec Ideal S1x320 .f32) (x12 : Vec Ideal S1x1 .f32) (x13 : Vec Ideal S768x320 .i8) (x14 : Vec Ideal S768x1 .f32) (x15 : Vec Ideal S768x1280 .f32) : Prop where
  x : ∀ (j : Fin 64) (b : Fin 768) (k : Fin 320), x0 (ix3 j b k) = A.x b j k
  xs : ∀ (j : Fin 64) (b : Fin 768), x1 (ix3 j b 0) = A.xs b j
  n : ∀ b : Fin 768, x2 (ix2 b 0) = A.n b
  reset : ∀ b : Fin 768, x3 (ix2 b 0) = A.reset b
  wx : ∀ (g : Fin 4) (n : Fin 1280) (k : Fin 320), x4 (ix3 g n k) = A.wx (Spec.stacked g n) k
  wxs : ∀ (g : Fin 4) (n : Fin 1280), x5 (ix3 g 0 n) = A.wxs (Spec.stacked g n)
  wh : ∀ (g : Fin 4) (n : Fin 1280) (k : Fin 320), x6 (ix3 g n k) = A.wh (Spec.stacked g n) k
  whs : ∀ (g : Fin 4) (n : Fin 1280), x7 (ix3 g 0 n) = A.whs (Spec.stacked g n)
  gain : ∀ (g : Fin 4) (n : Fin 1280), x8 (ix3 g 0 n) = A.gain g n
  bias : ∀ (g : Fin 4) (n : Fin 1280), x9 (ix3 g 0 n) = A.bias g n
  wp : ∀ (r : Fin 320) (n : Fin 1280), x10 (ix2 r n) = A.wp r n
  wps : ∀ r : Fin 320, x11 (ix2 0 r) = A.wps r
  ms : x12 (ix2 0 0) = A.ms
  h0 : ∀ (b : Fin 768) (r : Fin 320), x13 (ix2 b r) = A.h0 b r
  h0s : ∀ b : Fin 768, x14 (ix2 b 0) = A.h0s b
  c0 : ∀ (b : Fin 768) (n : Fin 1280), x15 (ix2 b n) = A.c0 b n

/-- The loads at their places. -/
theorem idx2 {n0 n1 : Nat} (inb : ∀ a, (![0, 0] : Fin 2 → Nat) a + (⟨2, ![n0, n1]⟩ : Shape).size a ≤ (⟨2, ![n0, n1]⟩ : Shape).size a)
    (i : Fin n0) (j : Fin n1) :
    (Rect.unit (s := ⟨2, ![n0, n1]⟩) ![0, 0] (⟨2, ![n0, n1]⟩ : Shape).size inb).toLoadRect.idx (ix2 i j) = ix2 i j := by
  funext a; apply Fin.ext
  match a with
  | ⟨0, _⟩ => show 0 + 1 * i.val = i.val; omega
  | ⟨1, _⟩ => show 0 + 1 * j.val = j.val; omega

theorem idx3 {n0 n1 n2 : Nat} (off : Fin 3 → Nat) (k : Fin n0) (hoff : off = ![k.val, 0, 0])
    (inb : ∀ a, off a + (⟨3, ![1, n1, n2]⟩ : Shape).size a ≤ (⟨3, ![n0, n1, n2]⟩ : Shape).size a) (i : Fin n1) (j : Fin n2) :
    (Rect.unit (s := ⟨3, ![n0, n1, n2]⟩) off (⟨3, ![1, n1, n2]⟩ : Shape).size inb).toLoadRect.idx (ix3 0 i j) = ix3 k i j := by
  subst hoff
  funext a; apply Fin.ext
  match a with
  | ⟨0, _⟩ => show k.val + 1 * 0 = k.val; omega
  | ⟨1, _⟩ => show 0 + 1 * i.val = i.val; omega
  | ⟨2, _⟩ => show 0 + 1 * j.val = j.val; omega

/-- A step's number. -/
abbrev stepOf (k : Fin k0_t1_loop.trips) : Fin 64 := Fin.ofNat 64 k.val

theorem stepOf_val (k : Fin k0_t1_loop.trips) : (stepOf k).val = k.val := by
  have := lt_of_lt_of_eq k.isLt trips
  show k.val % 64 = k.val
  omega

theorem num_start (p : BitVec 1) (v : BitVec 8) : num (FloatOps.fptosi (F := Ideal) (φ := .f32) 8 (Scalar.select p 0 (num v)))
    = Scalar.select p 0 (num v) := by
  unfold Scalar.select
  split
  · rw [Spec.fptosi_zero, Spec.num_zero]
  · exact congrArg num (Spec.fptosi_num v)

theorem ms_at (v : Vec Ideal S1x1 .f32) : k0_pay5 v = v (ix2 0 0) := by
  unfold k0_pay5
  pointwise

theorem live_at (k : Fin k0_t1_loop.trips) (v : Vec Ideal S768x1 .i32) (b : Fin 768) :
    k0_pay8 0#32 1#32 k v (ix2 b 0) = Spec.alive (v (ix2 b 0)) (BitVec.ofNat 32 k.val) := by
  have e : Scf.iv 0#32 1#32 k.val = BitVec.ofNat 32 k.val := by
    simp [Scf.iv]
  pointwise [k0_pay8]
  rw [e]
  rfl

section Loop

variable (𝒱 : Variants) (c : Dev nD) (bd : Option 𝒱.V) (arg0 : Memref sig .tc .vmem S64x768x320 .i8) (harg0 : arg0.IsWhole) (arg1 : Memref sig .tc .vmem S64x768x1 .f32) (harg1 : arg1.IsWhole) (arg2 : Memref sig .tc .vmem S768x1 .i32) (harg2 : arg2.IsWhole) (arg3 : Memref sig .tc .vmem S768x1 .i32) (harg3 : arg3.IsWhole) (arg4 : Memref sig .tc .vmem S4x1280x320 .i8) (harg4 : arg4.IsWhole) (arg5 : Memref sig .tc .vmem S4x1x1280 .f32) (harg5 : arg5.IsWhole) (arg6 : Memref sig .tc .vmem S4x1280x320 .i8) (harg6 : arg6.IsWhole) (arg7 : Memref sig .tc .vmem S4x1x1280 .f32) (harg7 : arg7.IsWhole) (arg8 : Memref sig .tc .vmem S4x1x1280 .f32) (harg8 : arg8.IsWhole) (arg9 : Memref sig .tc .vmem S4x1x1280 .f32) (harg9 : arg9.IsWhole) (arg10 : Memref sig .tc .vmem S320x1280 .i8) (harg10 : arg10.IsWhole) (arg11 : Memref sig .tc .vmem S1x320 .f32) (harg11 : arg11.IsWhole) (arg12 : Memref sig .tc .vmem S1x1 .f32) (harg12 : arg12.IsWhole) (arg13 : Memref sig .tc .vmem S768x320 .i8) (harg13 : arg13.IsWhole) (arg14 : Memref sig .tc .vmem S768x1 .f32) (harg14 : arg14.IsWhole) (arg15 : Memref sig .tc .vmem S768x1280 .f32) (harg15 : arg15.IsWhole) (arg16 : Memref sig .tc .vmem S64x320x768 .i8) (harg16 : arg16.IsWhole) (arg17 : Memref sig .tc .vmem S64x1x768 .f32) (harg17 : arg17.IsWhole) (arg18 : Memref sig .tc .vmem S64x320x768 .f32) (harg18 : arg18.IsWhole) (arg19 : Memref sig .tc .vmem S64x4x80x768 .f32) (harg19 : arg19.IsWhole) (arg20 : Memref sig .tc .vmem S64x768x1280 .i8) (harg20 : arg20.IsWhole) (arg21 : Memref sig .tc .vmem S64x768x1280 .f32) (harg21 : arg21.IsWhole) (v18 : Vec Ideal S1x1 .f32) (X_arg0 : BufTy.Contents (Elt Ideal) arg0.view.ty) (X_arg1 : BufTy.Contents (Elt Ideal) arg1.view.ty) (X_arg2 : BufTy.Contents (Elt Ideal) arg2.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (X_arg10 : BufTy.Contents (Elt Ideal) arg10.view.ty) (X_arg11 : BufTy.Contents (Elt Ideal) arg11.view.ty)

/-- The loop's stores, from what its steps load. -/
theorem loop_inv (init : Carry Ideal) (A : Spec.Args) (hi : Holds A init 0)
    (hR : ∀ k, Reads A (ld arg0 arg1 arg2 arg4 arg5 arg6 arg7 arg8 arg9 arg10 arg11 v18 X_arg0 X_arg1 X_arg2 X_arg4 X_arg5 X_arg6 X_arg7 X_arg8 X_arg9 X_arg10 X_arg11 k) k.val) : ∀ n : Nat, n ≤ k0_t1_loop.trips → Inv A n (st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v18 X_arg0 X_arg1 X_arg2 X_arg4 X_arg5 X_arg6 X_arg7 X_arg8 X_arg9 X_arg10 X_arg11 init n)
  | 0, _ => inv_zero hi
  | n + 1, h => by
    have J := inv_succ (k := ⟨n, h⟩) (loop_inv init A hi hR n (by omega)) (hR ⟨n, h⟩)
    rw [st_k0_t1_succ 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v18 X_arg0 X_arg1 X_arg2 X_arg4 X_arg5 X_arg6 X_arg7 X_arg8 X_arg9 X_arg10 X_arg11 init ⟨n, h⟩, trip_next, trip_lists]
    exact J

end Loop

variable (𝒱 : Variants) (bd : Option 𝒱.V) (c : Dev nD) (arg0 : Memref sig .tc .vmem S64x768x320 .i8) (harg0 : arg0.IsWhole) (arg1 : Memref sig .tc .vmem S64x768x1 .f32) (harg1 : arg1.IsWhole) (arg2 : Memref sig .tc .vmem S768x1 .i32) (harg2 : arg2.IsWhole) (arg3 : Memref sig .tc .vmem S768x1 .i32) (harg3 : arg3.IsWhole) (arg4 : Memref sig .tc .vmem S4x1280x320 .i8) (harg4 : arg4.IsWhole) (arg5 : Memref sig .tc .vmem S4x1x1280 .f32) (harg5 : arg5.IsWhole) (arg6 : Memref sig .tc .vmem S4x1280x320 .i8) (harg6 : arg6.IsWhole) (arg7 : Memref sig .tc .vmem S4x1x1280 .f32) (harg7 : arg7.IsWhole) (arg8 : Memref sig .tc .vmem S4x1x1280 .f32) (harg8 : arg8.IsWhole) (arg9 : Memref sig .tc .vmem S4x1x1280 .f32) (harg9 : arg9.IsWhole) (arg10 : Memref sig .tc .vmem S320x1280 .i8) (harg10 : arg10.IsWhole) (arg11 : Memref sig .tc .vmem S1x320 .f32) (harg11 : arg11.IsWhole) (arg12 : Memref sig .tc .vmem S1x1 .f32) (harg12 : arg12.IsWhole) (arg13 : Memref sig .tc .vmem S768x320 .i8) (harg13 : arg13.IsWhole) (arg14 : Memref sig .tc .vmem S768x1 .f32) (harg14 : arg14.IsWhole) (arg15 : Memref sig .tc .vmem S768x1280 .f32) (harg15 : arg15.IsWhole) (arg16 : Memref sig .tc .vmem S64x320x768 .i8) (harg16 : arg16.IsWhole) (arg17 : Memref sig .tc .vmem S64x1x768 .f32) (harg17 : arg17.IsWhole) (arg18 : Memref sig .tc .vmem S64x320x768 .f32) (harg18 : arg18.IsWhole) (arg19 : Memref sig .tc .vmem S64x4x80x768 .f32) (harg19 : arg19.IsWhole) (arg20 : Memref sig .tc .vmem S64x768x1280 .i8) (harg20 : arg20.IsWhole) (arg21 : Memref sig .tc .vmem S64x768x1280 .f32) (harg21 : arg21.IsWhole) (x0 : Vec Ideal S64x768x320 .i8) (x1 : Vec Ideal S64x768x1 .f32) (x2 : Vec Ideal S768x1 .i32) (x3 : Vec Ideal S768x1 .i32) (x4 : Vec Ideal S4x1280x320 .i8) (x5 : Vec Ideal S4x1x1280 .f32) (x6 : Vec Ideal S4x1280x320 .i8) (x7 : Vec Ideal S4x1x1280 .f32) (x8 : Vec Ideal S4x1x1280 .f32) (x9 : Vec Ideal S4x1x1280 .f32) (x10 : Vec Ideal S320x1280 .i8) (x11 : Vec Ideal S1x320 .f32) (x12 : Vec Ideal S1x1 .f32) (x13 : Vec Ideal S768x320 .i8) (x14 : Vec Ideal S768x1 .f32) (x15 : Vec Ideal S768x1280 .f32)

/-- A step's loads are the arrays' entries. -/
theorem ld_reads (A : Spec.Args) (I : Ins A x0 x1 x2 x3 x4 x5 x6 x7 x8 x9 x10 x11 x12 x13 x14 x15) (k : Fin k0_t1_loop.trips) :
    Reads A (ld arg0 arg1 arg2 arg4 arg5 arg6 arg7 arg8 arg9 arg10 arg11 (View.readAt (Elt Ideal) arg12.view rectMs.toLoadRect (harg12.unread x12)) (harg0.unread x0) (harg1.unread x1) (harg2.unread x2) (harg4.unread x4) (harg5.unread x5) (harg6.unread x6) (harg7.unread x7) (harg8.unread x8) (harg9.unread x9) (harg10.unread x10) (harg11.unread x11) k) k.val where
  live b := (live_at k _ b).trans (congrArg (Spec.alive · _) ((harg2.readAt_unread x2 _ _).trans ((congrArg x2 (idx2 _ b 0)).trans (I.n b))))
  x b j := (harg0.readAt_unread x0 _ _).trans ((congrArg x0 (idx3 _ (stepOf k) ((off1 k).trans (by rw [stepOf_val])) _ b j)).trans (I.x _ b j))
  xs b := (harg1.readAt_unread x1 _ _).trans ((congrArg x1 (idx3 _ (stepOf k) ((off2 k).trans (by rw [stepOf_val])) _ b 0)).trans (I.xs _ b))
  wx g n j := (harg4.readAt_unread x4 _ _).trans ((congrArg x4 (idx3 _ g rfl _ n j)).trans (I.wx g n j))
  wh g n j := (harg6.readAt_unread x6 _ _).trans ((congrArg x6 (idx3 _ g rfl _ n j)).trans (I.wh g n j))
  wxs g n := (harg5.readAt_unread x5 _ _).trans ((congrArg x5 (idx3 _ g rfl _ 0 n)).trans (I.wxs g n))
  whs g n := (harg7.readAt_unread x7 _ _).trans ((congrArg x7 (idx3 _ g rfl _ 0 n)).trans (I.whs g n))
  gain g n := (harg8.readAt_unread x8 _ _).trans ((congrArg x8 (idx3 _ g rfl _ 0 n)).trans (I.gain g n))
  bias g n := (harg9.readAt_unread x9 _ _).trans ((congrArg x9 (idx3 _ g rfl _ 0 n)).trans (I.bias g n))
  wp r n := (harg10.readAt_unread x10 _ _).trans ((congrArg x10 (idx2 _ r n)).trans (I.wp r n))
  wps r := (harg11.readAt_unread x11 _ _).trans ((congrArg x11 (idx2 _ 0 r)).trans (I.wps r))
  ms := (ms_at _).trans ((harg12.readAt_unread x12 _ _).trans ((congrArg x12 (idx2 _ 0 0)).trans I.ms))

/-- What the first step carries. -/
theorem init_holds (A : Spec.Args) (I : Ins A x0 x1 x2 x3 x4 x5 x6 x7 x8 x9 x10 x11 x12 x13 x14 x15) : Holds A (k0_pay2 (F := Ideal) (View.readAt (Elt Ideal) arg3.view rectN.toLoadRect (harg3.unread x3)) (View.readAt (Elt Ideal) arg13.view rectH0.toLoadRect (harg13.unread x13)), k0_pay3 (View.readAt (Elt Ideal) arg14.view rectN.toLoadRect (harg14.unread x14)), k0_pay4 (View.readAt (Elt Ideal) arg3.view rectN.toLoadRect (harg3.unread x3)) (View.readAt (Elt Ideal) arg15.view rectC0.toLoadRect (harg15.unread x15))) 0 where
  h b k := (congrArg num ((init_h _ _ b k).trans (congrArg₂ (fun p v => FloatOps.fptosi (F := Ideal) (φ := .f32) 8 (Scalar.select (Spec.fresh p) 0 (num v)))
    ((harg3.readAt_unread x3 _ _).trans ((congrArg x3 (idx2 _ b 0)).trans (I.reset b)))
    ((harg13.readAt_unread x13 _ _).trans ((congrArg x13 (idx2 _ b k)).trans (I.h0 b k)))))).trans (num_start _ _)
  s b := (init_s _ b).trans ((harg14.readAt_unread x14 _ _).trans ((congrArg x14 (idx2 _ b 0)).trans (I.h0s b)))
  c b n := (init_c _ _ b n).trans (congrArg₂ (fun p v => Scalar.select (Spec.fresh p) (0 : EReal) v)
    ((harg3.readAt_unread x3 _ _).trans ((congrArg x3 (idx2 _ b 0)).trans (I.reset b)))
    ((harg15.readAt_unread x15 _ _).trans ((congrArg x15 (idx2 _ b n)).trans (I.c0 b n))))

/-- The loop's stores. -/
theorem st_inv (A : Spec.Args) (I : Ins A x0 x1 x2 x3 x4 x5 x6 x7 x8 x9 x10 x11 x12 x13 x14 x15) (n : Nat) (h : n ≤ k0_t1_loop.trips) :
    Inv A n (st_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (View.readAt (Elt Ideal) arg12.view rectMs.toLoadRect (harg12.unread x12)) (harg0.unread x0) (harg1.unread x1) (harg2.unread x2) (harg4.unread x4) (harg5.unread x5) (harg6.unread x6) (harg7.unread x7) (harg8.unread x8) (harg9.unread x9) (harg10.unread x10) (harg11.unread x11) (k0_pay2 (F := Ideal) (View.readAt (Elt Ideal) arg3.view rectN.toLoadRect (harg3.unread x3)) (View.readAt (Elt Ideal) arg13.view rectH0.toLoadRect (harg13.unread x13)), k0_pay3 (View.readAt (Elt Ideal) arg14.view rectN.toLoadRect (harg14.unread x14)), k0_pay4 (View.readAt (Elt Ideal) arg3.view rectN.toLoadRect (harg3.unread x3)) (View.readAt (Elt Ideal) arg15.view rectC0.toLoadRect (harg15.unread x15))) n) :=
  loop_inv 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (View.readAt (Elt Ideal) arg12.view rectMs.toLoadRect (harg12.unread x12)) (harg0.unread x0) (harg1.unread x1) (harg2.unread x2) (harg4.unread x4) (harg5.unread x5) (harg6.unread x6) (harg7.unread x7) (harg8.unread x8) (harg9.unread x9) (harg10.unread x10) (harg11.unread x11) (k0_pay2 (F := Ideal) (View.readAt (Elt Ideal) arg3.view rectN.toLoadRect (harg3.unread x3)) (View.readAt (Elt Ideal) arg13.view rectH0.toLoadRect (harg13.unread x13)), k0_pay3 (View.readAt (Elt Ideal) arg14.view rectN.toLoadRect (harg14.unread x14)), k0_pay4 (View.readAt (Elt Ideal) arg3.view rectN.toLoadRect (harg3.unread x3)) (View.readAt (Elt Ideal) arg15.view rectC0.toLoadRect (harg15.unread x15))) A (init_holds (I := I) (arg3 := arg3) (harg3 := harg3) (arg13 := arg13) (harg13 := harg13) (arg14 := arg14) (harg14 := harg14) (arg15 := arg15) (harg15 := harg15)) (fun k => ld_reads (I := I) (k := k) (arg0 := arg0) (harg0 := harg0) (arg1 := arg1) (harg1 := harg1) (arg2 := arg2) (harg2 := harg2) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12)) n h

end Cert.Proof.Ref
end
-- ==== Proof.RefBlocks.lean ====
/-
  The blocks the reference's windows read are entries of the layer's inputs.
-/
module

public import proofs.«01_k».proof.Proof.Gen.ReferenceIdeal.Value
public import proofs.«01_k».proof.Proof.Problem
public import Idealize.ShloMosaic.Lib.Pointwise

@[expose] public section

set_option maxRecDepth 16384

noncomputable section

namespace Cert.Proof.Ref

open Cert.ReferenceIdeal Cert.ReferenceIdeal.Gen Idealize.ShloMosaic Idealize.ShloMosaic.TcCoe Idealize.SL.Sem Idealize.ShloMosaic.Tactic

variable (m : (ℓ : Loc nD τ sig) → Buf (Elt Ideal) ℓ) (c : Dev nD)

/-- The reference's inputs. -/
def rArgs : Spec.Args where
  x b t k := m ((c : Thread nD τ).loc main_arg0) (ix3 b t k)
  xs b t := m ((c : Thread nD τ).loc main_arg1) (ix2 b t)
  n b := m ((c : Thread nD τ).loc main_arg2) (ix1 b)
  reset b := m ((c : Thread nD τ).loc main_arg3) (ix1 b)
  wx n k := m ((c : Thread nD τ).loc main_arg4) (ix2 n k)
  wxs n := m ((c : Thread nD τ).loc main_arg5) (ix1 n)
  wh n k := m ((c : Thread nD τ).loc main_arg6) (ix2 n k)
  whs n := m ((c : Thread nD τ).loc main_arg7) (ix1 n)
  gain g n := m ((c : Thread nD τ).loc main_arg8) (ix2 g n)
  bias g n := m ((c : Thread nD τ).loc main_arg9) (ix2 g n)
  wp r n := m ((c : Thread nD τ).loc main_arg10) (ix2 r n)
  wps r := m ((c : Thread nD τ).loc main_arg11) (ix1 r)
  ms := m ((c : Thread nD τ).loc main_arg12) ix0
  h0 b r := m ((c : Thread nD τ).loc main_arg13) (ix2 b r)
  h0s b := m ((c : Thread nD τ).loc main_arg14) (ix1 b)
  c0 b n := m ((c : Thread nD τ).loc main_arg15) (ix2 b n)

theorem whole2 {n0 n1 : Nat} (e : (⟨2, ![n0, n1]⟩ : Shape).Idx) (i : Fin n0) (j : Fin n1) (h0 : (e 0).val = 0 * n0 + 1 * i.val)
    (h1 : (e 1).val = 0 * n1 + 1 * j.val) : e = ix2 i j := by
  funext a; apply Fin.ext
  match a with
  | ⟨0, _⟩ => exact h0.trans (by show 0 * n0 + 1 * i.val = i.val; omega)
  | ⟨1, _⟩ => exact h1.trans (by show 0 * n1 + 1 * j.val = j.val; omega)

theorem whole3 {n0 n1 n2 : Nat} (e : (⟨3, ![n0, n1, n2]⟩ : Shape).Idx) (i : Fin n0) (j : Fin n1) (k : Fin n2)
    (h0 : (e 0).val = 0 * n0 + 1 * i.val) (h1 : (e 1).val = 0 * n1 + 1 * j.val) (h2 : (e 2).val = 0 * n2 + 1 * k.val) : e = ix3 i j k := by
  funext a; apply Fin.ext
  match a with
  | ⟨0, _⟩ => exact h0.trans (by show 0 * n0 + 1 * i.val = i.val; omega)
  | ⟨1, _⟩ => exact h1.trans (by show 0 * n1 + 1 * j.val = j.val; omega)
  | ⟨2, _⟩ => exact h2.trans (by show 0 * n2 + 1 * k.val = k.val; omega)

/-- The gates' rows are stacked. -/
theorem gates_at (v : Vec Ideal S5120x320 .i8) (g : Fin 4) (n : Fin 1280) (k : Fin 320) :
    shapeCast S4x1280x320 v shapeCasts_S5120x320_S4x1280x320 (ix3 g n k) = v (ix2 (Spec.stacked g n) k) := by
  refine shapeCast_apply _ _ _ _ ?_
  rw [rowMajor_val2 _ 320 rfl, rowMajor_val3 _ (1280 * 320) 320 rfl rfl]
  show (1280 * g.val + n.val) * 320 + k.val = g.val * (1280 * 320) + n.val * 320 + k.val
  omega

theorem gate_at (v : FVec Ideal S5120 .f32) (g : Fin 4) (n : Fin 1280) :
    shapeCast S4x1x1280 v shapeCasts_S5120_S4x1x1280 (ix3 g 0 n) = v (ix1 (Spec.stacked g n)) := by
  refine shapeCast_apply _ _ _ _ ?_
  rw [rowMajor_val1, rowMajor_val3 _ (1 * 1280) 1280 rfl rfl]
  show 1280 * g.val + n.val = g.val * (1 * 1280) + 0 * 1280 + n.val
  omega

theorem norm_at (v : FVec Ideal S4x1280 .f32) (g : Fin 4) (n : Fin 1280) :
    shapeCast S4x1x1280 v shapeCasts_S4x1280_S4x1x1280 (ix3 g 0 n) = v (ix2 g n) := by
  refine shapeCast_apply _ _ _ _ ?_
  rw [rowMajor_val2 _ 1280 rfl, rowMajor_val3 _ (1 * 1280) 1280 rfl rfl]
  show g.val * 1280 + n.val = g.val * (1 * 1280) + 0 * 1280 + n.val
  omega

theorem time_at (v : FVec Ideal S64x768 .f32) (t : Fin 64) (b : Fin 768) :
    shapeCast S64x768x1 v shapeCasts_S64x768_S64x768x1 (ix3 t b 0) = v (ix2 t b) := by
  refine shapeCast_apply _ _ _ _ ?_
  rw [rowMajor_val2 _ 768 rfl, rowMajor_val3 _ (768 * 1) 1 rfl rfl]
  show t.val * 768 + b.val = t.val * (768 * 1) + b.val * 1 + 0
  omega

theorem col_at {e : EltTy} (v : Vec Ideal S768 e) (b : Fin 768) :
    shapeCast S768x1 v shapeCasts_S768_S768x1 (ix2 b 0) = v (ix1 b) := by
  refine shapeCast_apply _ _ _ _ ?_
  rw [rowMajor_val1, rowMajor_val2 _ 1 rfl]
  show b.val = b.val * 1 + 0
  omega

theorem row_at (v : FVec Ideal S320 .f32) (r : Fin 320) :
    shapeCast S1x320 v shapeCasts_S320_S1x320 (ix2 0 r) = v (ix1 r) := by
  refine shapeCast_apply _ _ _ _ ?_
  rw [rowMajor_val1, rowMajor_val2 _ 320 rfl]
  show r.val = 0 * 320 + r.val
  omega

theorem blk0 (t : Fin cfg0.N) (j : Fin 64) (b : Fin 768) (k : Fin 320) : (iblk m c 0 t : Vec Ideal S64x768x320 .i8) (ix3 j b k) = (rArgs m c).x b j k := by
  show V m c main_v0 (((cfg0.win 0).blk t).view.emb (ix3 j b k)) = _
  have h : V m c main_v0 = transpose S64x768x320 [1, 0, 2] (m ((c : Thread nD τ).loc main_arg0)) transposes_S768x64x320_S64x768x320_1_0_2 := by
    sl_kernel_rfl
  have e : ((cfg0.win 0).blk t).view.emb (ix3 j b k) = (ix3 j b k : S64x768x320.Idx) := whole3 _ j b k rfl rfl rfl
  rw [e, h]
  pointwise
  rfl

theorem blk1 (t : Fin cfg0.N) (j : Fin 64) (b : Fin 768) : (iblk m c 1 t : Vec Ideal S64x768x1 .f32) (ix3 j b 0) = (rArgs m c).xs b j := by
  show V m c main_v2 (((cfg0.win 1).blk t).view.emb (ix3 j b 0)) = _
  have h : V m c main_v2 = shapeCast S64x768x1 (transpose S64x768 [1, 0] (m ((c : Thread nD τ).loc main_arg1)) transposes_S768x64_S64x768_1_0) shapeCasts_S64x768_S64x768x1 := by
    sl_kernel_rfl
  have e : ((cfg0.win 1).blk t).view.emb (ix3 j b 0) = (ix3 j b 0 : S64x768x1.Idx) := whole3 _ j b 0 rfl rfl rfl
  rw [e, h]
  rw [time_at]
  pointwise
  rfl

theorem blk2 (t : Fin cfg0.N) (b : Fin 768) : (iblk m c 2 t : Vec Ideal S768x1 .i32) (ix2 b 0) = (rArgs m c).n b := by
  show V m c main_v3 (((cfg0.win 2).blk t).view.emb (ix2 b 0)) = _
  have h : V m c main_v3 = shapeCast S768x1 (m ((c : Thread nD τ).loc main_arg2)) shapeCasts_S768_S768x1 := by
    sl_kernel_rfl
  have e : ((cfg0.win 2).blk t).view.emb (ix2 b 0) = (ix2 b 0 : S768x1.Idx) := whole2 _ b 0 rfl rfl
  rw [e, h]
  exact col_at _ b

theorem blk3 (t : Fin cfg0.N) (b : Fin 768) : (iblk m c 3 t : Vec Ideal S768x1 .i32) (ix2 b 0) = (rArgs m c).reset b := by
  show V m c main_v4 (((cfg0.win 3).blk t).view.emb (ix2 b 0)) = _
  have h : V m c main_v4 = shapeCast S768x1 (m ((c : Thread nD τ).loc main_arg3)) shapeCasts_S768_S768x1 := by
    sl_kernel_rfl
  have e : ((cfg0.win 3).blk t).view.emb (ix2 b 0) = (ix2 b 0 : S768x1.Idx) := whole2 _ b 0 rfl rfl
  rw [e, h]
  exact col_at _ b

theorem blk4 (t : Fin cfg0.N) (g : Fin 4) (n : Fin 1280) (k : Fin 320) : (iblk m c 4 t : Vec Ideal S4x1280x320 .i8) (ix3 g n k) = (rArgs m c).wx (Spec.stacked g n) k := by
  show V m c main_v5 (((cfg0.win 4).blk t).view.emb (ix3 g n k)) = _
  have h : V m c main_v5 = shapeCast S4x1280x320 (m ((c : Thread nD τ).loc main_arg4)) shapeCasts_S5120x320_S4x1280x320 := by
    sl_kernel_rfl
  have e : ((cfg0.win 4).blk t).view.emb (ix3 g n k) = (ix3 g n k : S4x1280x320.Idx) := whole3 _ g n k rfl rfl rfl
  rw [e, h]
  exact gates_at _ g n k

theorem blk6 (t : Fin cfg0.N) (g : Fin 4) (n : Fin 1280) (k : Fin 320) : (iblk m c 6 t : Vec Ideal S4x1280x320 .i8) (ix3 g n k) = (rArgs m c).wh (Spec.stacked g n) k := by
  show V m c main_v7 (((cfg0.win 6).blk t).view.emb (ix3 g n k)) = _
  have h : V m c main_v7 = shapeCast S4x1280x320 (m ((c : Thread nD τ).loc main_arg6)) shapeCasts_S5120x320_S4x1280x320 := by
    sl_kernel_rfl
  have e : ((cfg0.win 6).blk t).view.emb (ix3 g n k) = (ix3 g n k : S4x1280x320.Idx) := whole3 _ g n k rfl rfl rfl
  rw [e, h]
  exact gates_at _ g n k

theorem blk5 (t : Fin cfg0.N) (g : Fin 4) (n : Fin 1280) : (iblk m c 5 t : Vec Ideal S4x1x1280 .f32) (ix3 g 0 n) = (rArgs m c).wxs (Spec.stacked g n) := by
  show V m c main_v6 (((cfg0.win 5).blk t).view.emb (ix3 g 0 n)) = _
  have h : V m c main_v6 = shapeCast S4x1x1280 (m ((c : Thread nD τ).loc main_arg5)) shapeCasts_S5120_S4x1x1280 := by
    sl_kernel_rfl
  have e : ((cfg0.win 5).blk t).view.emb (ix3 g 0 n) = (ix3 g 0 n : S4x1x1280.Idx) := whole3 _ g 0 n rfl rfl rfl
  rw [e, h]
  exact gate_at _ g n

theorem blk7 (t : Fin cfg0.N) (g : Fin 4) (n : Fin 1280) : (iblk m c 7 t : Vec Ideal S4x1x1280 .f32) (ix3 g 0 n) = (rArgs m c).whs (Spec.stacked g n) := by
  show V m c main_v8 (((cfg0.win 7).blk t).view.emb (ix3 g 0 n)) = _
  have h : V m c main_v8 = shapeCast S4x1x1280 (m ((c : Thread nD τ).loc main_arg7)) shapeCasts_S5120_S4x1x1280 := by
    sl_kernel_rfl
  have e : ((cfg0.win 7).blk t).view.emb (ix3 g 0 n) = (ix3 g 0 n : S4x1x1280.Idx) := whole3 _ g 0 n rfl rfl rfl
  rw [e, h]
  exact gate_at _ g n

theorem blk8 (t : Fin cfg0.N) (g : Fin 4) (n : Fin 1280) : (iblk m c 8 t : Vec Ideal S4x1x1280 .f32) (ix3 g 0 n) = (rArgs m c).gain g n := by
  show V m c main_v9 (((cfg0.win 8).blk t).view.emb (ix3 g 0 n)) = _
  have h : V m c main_v9 = shapeCast S4x1x1280 (m ((c : Thread nD τ).loc main_arg8)) shapeCasts_S4x1280_S4x1x1280 := by
    sl_kernel_rfl
  have e : ((cfg0.win 8).blk t).view.emb (ix3 g 0 n) = (ix3 g 0 n : S4x1x1280.Idx) := whole3 _ g 0 n rfl rfl rfl
  rw [e, h]
  exact norm_at _ g n

theorem blk9 (t : Fin cfg0.N) (g : Fin 4) (n : Fin 1280) : (iblk m c 9 t : Vec Ideal S4x1x1280 .f32) (ix3 g 0 n) = (rArgs m c).bias g n := by
  show V m c main_v10 (((cfg0.win 9).blk t).view.emb (ix3 g 0 n)) = _
  have h : V m c main_v10 = shapeCast S4x1x1280 (m ((c : Thread nD τ).loc main_arg9)) shapeCasts_S4x1280_S4x1x1280 := by
    sl_kernel_rfl
  have e : ((cfg0.win 9).blk t).view.emb (ix3 g 0 n) = (ix3 g 0 n : S4x1x1280.Idx) := whole3 _ g 0 n rfl rfl rfl
  rw [e, h]
  exact norm_at _ g n

theorem blk10 (t : Fin cfg0.N) (r : Fin 320) (n : Fin 1280) : (iblk m c 10 t : Vec Ideal S320x1280 .i8) (ix2 r n) = (rArgs m c).wp r n := by
  show V m c main_arg10 (((cfg0.win 10).blk t).view.emb (ix2 r n)) = _
  have h : V m c main_arg10 = (m ((c : Thread nD τ).loc main_arg10)) := by
    sl_kernel_rfl
  have e : ((cfg0.win 10).blk t).view.emb (ix2 r n) = (ix2 r n : S320x1280.Idx) := whole2 _ r n rfl rfl
  rw [e, h]
  rfl

theorem blk11 (t : Fin cfg0.N) (r : Fin 320) : (iblk m c 11 t : Vec Ideal S1x320 .f32) (ix2 0 r) = (rArgs m c).wps r := by
  show V m c main_v11 (((cfg0.win 11).blk t).view.emb (ix2 0 r)) = _
  have h : V m c main_v11 = shapeCast S1x320 (m ((c : Thread nD τ).loc main_arg11)) shapeCasts_S320_S1x320 := by
    sl_kernel_rfl
  have e : ((cfg0.win 11).blk t).view.emb (ix2 0 r) = (ix2 0 r : S1x320.Idx) := whole2 _ 0 r rfl rfl
  rw [e, h]
  exact row_at _ r

theorem blk12 (t : Fin cfg0.N)  : (iblk m c 12 t : Vec Ideal S1x1 .f32) (ix2 0 0) = (rArgs m c).ms := by
  show V m c main_v12 (((cfg0.win 12).blk t).view.emb (ix2 0 0)) = _
  have h : V m c main_v12 = shapeCast S1x1 (m ((c : Thread nD τ).loc main_arg12)) shapeCasts_S_S1x1 := by
    sl_kernel_rfl
  have e : ((cfg0.win 12).blk t).view.emb (ix2 0 0) = (ix2 0 0 : S1x1.Idx) := whole2 _ 0 0 rfl rfl
  rw [e, h]
  pointwise
  rfl

theorem blk13 (t : Fin cfg0.N) (b : Fin 768) (r : Fin 320) : (iblk m c 13 t : Vec Ideal S768x320 .i8) (ix2 b r) = (rArgs m c).h0 b r := by
  show V m c main_arg13 (((cfg0.win 13).blk t).view.emb (ix2 b r)) = _
  have h : V m c main_arg13 = (m ((c : Thread nD τ).loc main_arg13)) := by
    sl_kernel_rfl
  have e : ((cfg0.win 13).blk t).view.emb (ix2 b r) = (ix2 b r : S768x320.Idx) := whole2 _ b r rfl rfl
  rw [e, h]
  rfl

theorem blk14 (t : Fin cfg0.N) (b : Fin 768) : (iblk m c 14 t : Vec Ideal S768x1 .f32) (ix2 b 0) = (rArgs m c).h0s b := by
  show V m c main_v13 (((cfg0.win 14).blk t).view.emb (ix2 b 0)) = _
  have h : V m c main_v13 = shapeCast S768x1 (m ((c : Thread nD τ).loc main_arg14)) shapeCasts_S768_S768x1 := by
    sl_kernel_rfl
  have e : ((cfg0.win 14).blk t).view.emb (ix2 b 0) = (ix2 b 0 : S768x1.Idx) := whole2 _ b 0 rfl rfl
  rw [e, h]
  exact col_at _ b

theorem blk15 (t : Fin cfg0.N) (b : Fin 768) (n : Fin 1280) : (iblk m c 15 t : Vec Ideal S768x1280 .f32) (ix2 b n) = (rArgs m c).c0 b n := by
  show V m c main_arg15 (((cfg0.win 15).blk t).view.emb (ix2 b n)) = _
  have h : V m c main_arg15 = (m ((c : Thread nD τ).loc main_arg15)) := by
    sl_kernel_rfl
  have e : ((cfg0.win 15).blk t).view.emb (ix2 b n) = (ix2 b n : S768x1280.Idx) := whole2 _ b n rfl rfl
  rw [e, h]
  rfl

end Cert.Proof.Ref
end
-- ==== Proof.RefOut.lean ====
/-
  What the reference leaves in each result.
-/
module

public import proofs.«01_k».proof.Proof.RefRun
public import proofs.«01_k».proof.Proof.RefBlocks

@[expose] public section

set_option maxRecDepth 16384

noncomputable section

namespace Cert.Proof.Ref

open Cert.ReferenceIdeal Cert.ReferenceIdeal.Gen Idealize.ShloMosaic Idealize.ShloMosaic.TcCoe Idealize.SL.Sem Idealize.ShloMosaic.Tactic

variable (c : Dev nD) (arg0 : Memref sig .tc .vmem S64x768x320 .i8) (harg0 : arg0.IsWhole) (arg1 : Memref sig .tc .vmem S64x768x1 .f32) (harg1 : arg1.IsWhole) (arg2 : Memref sig .tc .vmem S768x1 .i32) (harg2 : arg2.IsWhole) (arg3 : Memref sig .tc .vmem S768x1 .i32) (harg3 : arg3.IsWhole) (arg4 : Memref sig .tc .vmem S4x1280x320 .i8) (harg4 : arg4.IsWhole) (arg5 : Memref sig .tc .vmem S4x1x1280 .f32) (harg5 : arg5.IsWhole) (arg6 : Memref sig .tc .vmem S4x1280x320 .i8) (harg6 : arg6.IsWhole) (arg7 : Memref sig .tc .vmem S4x1x1280 .f32) (harg7 : arg7.IsWhole) (arg8 : Memref sig .tc .vmem S4x1x1280 .f32) (harg8 : arg8.IsWhole) (arg9 : Memref sig .tc .vmem S4x1x1280 .f32) (harg9 : arg9.IsWhole) (arg10 : Memref sig .tc .vmem S320x1280 .i8) (harg10 : arg10.IsWhole) (arg11 : Memref sig .tc .vmem S1x320 .f32) (harg11 : arg11.IsWhole) (arg12 : Memref sig .tc .vmem S1x1 .f32) (harg12 : arg12.IsWhole) (arg13 : Memref sig .tc .vmem S768x320 .i8) (harg13 : arg13.IsWhole) (arg14 : Memref sig .tc .vmem S768x1 .f32) (harg14 : arg14.IsWhole) (arg15 : Memref sig .tc .vmem S768x1280 .f32) (harg15 : arg15.IsWhole) (arg16 : Memref sig .tc .vmem S64x320x768 .i8) (harg16 : arg16.IsWhole) (arg17 : Memref sig .tc .vmem S64x1x768 .f32) (harg17 : arg17.IsWhole) (arg18 : Memref sig .tc .vmem S64x320x768 .f32) (harg18 : arg18.IsWhole) (arg19 : Memref sig .tc .vmem S64x4x80x768 .f32) (harg19 : arg19.IsWhole) (arg20 : Memref sig .tc .vmem S64x768x1280 .i8) (harg20 : arg20.IsWhole) (arg21 : Memref sig .tc .vmem S64x768x1280 .f32) (harg21 : arg21.IsWhole) (x0 : Vec Ideal S64x768x320 .i8) (x1 : Vec Ideal S64x768x1 .f32) (x2 : Vec Ideal S768x1 .i32) (x3 : Vec Ideal S768x1 .i32) (x4 : Vec Ideal S4x1280x320 .i8) (x5 : Vec Ideal S4x1x1280 .f32) (x6 : Vec Ideal S4x1280x320 .i8) (x7 : Vec Ideal S4x1x1280 .f32) (x8 : Vec Ideal S4x1x1280 .f32) (x9 : Vec Ideal S4x1x1280 .f32) (x10 : Vec Ideal S320x1280 .i8) (x11 : Vec Ideal S1x320 .f32) (x12 : Vec Ideal S1x1 .f32) (x13 : Vec Ideal S768x320 .i8) (x14 : Vec Ideal S768x1 .f32) (x15 : Vec Ideal S768x1280 .f32)

theorem list16 : (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).1
    = (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (View.readAt (Elt Ideal) arg12.view rectMs.toLoadRect (harg12.unread x12)) (harg0.unread x0) (harg1.unread x1) (harg2.unread x2) (harg4.unread x4) (harg5.unread x5) (harg6.unread x6) (harg7.unread x7) (harg8.unread x8) (harg9.unread x9) (harg10.unread x10) (harg11.unread x11) (k0_pay2 (F := Ideal) (View.readAt (Elt Ideal) arg3.view rectN.toLoadRect (harg3.unread x3)) (View.readAt (Elt Ideal) arg13.view rectH0.toLoadRect (harg13.unread x13)), k0_pay3 (View.readAt (Elt Ideal) arg14.view rectN.toLoadRect (harg14.unread x14)), k0_pay4 (View.readAt (Elt Ideal) arg3.view rectN.toLoadRect (harg3.unread x3)) (View.readAt (Elt Ideal) arg15.view rectC0.toLoadRect (harg15.unread x15))) k0_t1_loop.trips).2.1 := by
  sl_kernel_rfl

theorem list17 : (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).2.1
    = (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (View.readAt (Elt Ideal) arg12.view rectMs.toLoadRect (harg12.unread x12)) (harg0.unread x0) (harg1.unread x1) (harg2.unread x2) (harg4.unread x4) (harg5.unread x5) (harg6.unread x6) (harg7.unread x7) (harg8.unread x8) (harg9.unread x9) (harg10.unread x10) (harg11.unread x11) (k0_pay2 (F := Ideal) (View.readAt (Elt Ideal) arg3.view rectN.toLoadRect (harg3.unread x3)) (View.readAt (Elt Ideal) arg13.view rectH0.toLoadRect (harg13.unread x13)), k0_pay3 (View.readAt (Elt Ideal) arg14.view rectN.toLoadRect (harg14.unread x14)), k0_pay4 (View.readAt (Elt Ideal) arg3.view rectN.toLoadRect (harg3.unread x3)) (View.readAt (Elt Ideal) arg15.view rectC0.toLoadRect (harg15.unread x15))) k0_t1_loop.trips).2.2.1 := by
  sl_kernel_rfl

theorem list18 : (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).2.2.1
    = (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (View.readAt (Elt Ideal) arg12.view rectMs.toLoadRect (harg12.unread x12)) (harg0.unread x0) (harg1.unread x1) (harg2.unread x2) (harg4.unread x4) (harg5.unread x5) (harg6.unread x6) (harg7.unread x7) (harg8.unread x8) (harg9.unread x9) (harg10.unread x10) (harg11.unread x11) (k0_pay2 (F := Ideal) (View.readAt (Elt Ideal) arg3.view rectN.toLoadRect (harg3.unread x3)) (View.readAt (Elt Ideal) arg13.view rectH0.toLoadRect (harg13.unread x13)), k0_pay3 (View.readAt (Elt Ideal) arg14.view rectN.toLoadRect (harg14.unread x14)), k0_pay4 (View.readAt (Elt Ideal) arg3.view rectN.toLoadRect (harg3.unread x3)) (View.readAt (Elt Ideal) arg15.view rectC0.toLoadRect (harg15.unread x15))) k0_t1_loop.trips).2.2.2.1 := by
  sl_kernel_rfl

theorem list19 : (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).2.2.2.1
    = (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (View.readAt (Elt Ideal) arg12.view rectMs.toLoadRect (harg12.unread x12)) (harg0.unread x0) (harg1.unread x1) (harg2.unread x2) (harg4.unread x4) (harg5.unread x5) (harg6.unread x6) (harg7.unread x7) (harg8.unread x8) (harg9.unread x9) (harg10.unread x10) (harg11.unread x11) (k0_pay2 (F := Ideal) (View.readAt (Elt Ideal) arg3.view rectN.toLoadRect (harg3.unread x3)) (View.readAt (Elt Ideal) arg13.view rectH0.toLoadRect (harg13.unread x13)), k0_pay3 (View.readAt (Elt Ideal) arg14.view rectN.toLoadRect (harg14.unread x14)), k0_pay4 (View.readAt (Elt Ideal) arg3.view rectN.toLoadRect (harg3.unread x3)) (View.readAt (Elt Ideal) arg15.view rectC0.toLoadRect (harg15.unread x15))) k0_t1_loop.trips).2.2.2.2.1 := by
  sl_kernel_rfl

theorem list20 : (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).2.2.2.2.1
    = (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (View.readAt (Elt Ideal) arg12.view rectMs.toLoadRect (harg12.unread x12)) (harg0.unread x0) (harg1.unread x1) (harg2.unread x2) (harg4.unread x4) (harg5.unread x5) (harg6.unread x6) (harg7.unread x7) (harg8.unread x8) (harg9.unread x9) (harg10.unread x10) (harg11.unread x11) (k0_pay2 (F := Ideal) (View.readAt (Elt Ideal) arg3.view rectN.toLoadRect (harg3.unread x3)) (View.readAt (Elt Ideal) arg13.view rectH0.toLoadRect (harg13.unread x13)), k0_pay3 (View.readAt (Elt Ideal) arg14.view rectN.toLoadRect (harg14.unread x14)), k0_pay4 (View.readAt (Elt Ideal) arg3.view rectN.toLoadRect (harg3.unread x3)) (View.readAt (Elt Ideal) arg15.view rectC0.toLoadRect (harg15.unread x15))) k0_t1_loop.trips).2.2.2.2.2.1 := by
  sl_kernel_rfl

theorem list21 : (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15).2.2.2.2.2.val
    = (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (View.readAt (Elt Ideal) arg12.view rectMs.toLoadRect (harg12.unread x12)) (harg0.unread x0) (harg1.unread x1) (harg2.unread x2) (harg4.unread x4) (harg5.unread x5) (harg6.unread x6) (harg7.unread x7) (harg8.unread x8) (harg9.unread x9) (harg10.unread x10) (harg11.unread x11) (k0_pay2 (F := Ideal) (View.readAt (Elt Ideal) arg3.view rectN.toLoadRect (harg3.unread x3)) (View.readAt (Elt Ideal) arg13.view rectH0.toLoadRect (harg13.unread x13)), k0_pay3 (View.readAt (Elt Ideal) arg14.view rectN.toLoadRect (harg14.unread x14)), k0_pay4 (View.readAt (Elt Ideal) arg3.view rectN.toLoadRect (harg3.unread x3)) (View.readAt (Elt Ideal) arg15.view rectC0.toLoadRect (harg15.unread x15))) k0_t1_loop.trips).2.2.2.2.2.2 := by
  sl_kernel_rfl

theorem block16 (A : Spec.Args) (I : Ins A x0 x1 x2 x3 x4 x5 x6 x7 x8 x9 x10 x11 x12 x13 x14 x15) (t : Fin 64) (r : Fin 320) (b : Fin 768) :
    out0_A_16 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 (ix3 t r b) = A.outH t r b := by
  have e := congrFun (View.read_writes_eq_canon VO0_16 VO0_16.junk _ (cover0_A_16 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15)) (ix3 t r b)
  refine Eq.trans e ?_
  rw [list16]
  exact (st_inv Variants.none none c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 A I _ le_rfl).h t (lt_of_lt_of_eq t.isLt trips.symm) r b

theorem block17 (A : Spec.Args) (I : Ins A x0 x1 x2 x3 x4 x5 x6 x7 x8 x9 x10 x11 x12 x13 x14 x15) (t : Fin 64) (b : Fin 768) :
    out0_A_17 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 (ix3 t 0 b) = A.outS t b := by
  have e := congrFun (View.read_writes_eq_canon VO0_17 VO0_17.junk _ (cover0_A_17 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15)) (ix3 t 0 b)
  refine Eq.trans e ?_
  rw [list17]
  exact (st_inv Variants.none none c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 A I _ le_rfl).s t (lt_of_lt_of_eq t.isLt trips.symm) b

theorem block18 (A : Spec.Args) (I : Ins A x0 x1 x2 x3 x4 x5 x6 x7 x8 x9 x10 x11 x12 x13 x14 x15) (t : Fin 64) (r : Fin 320) (b : Fin 768) :
    out0_A_18 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 (ix3 t r b) = A.outHf t r b := by
  have e := congrFun (View.read_writes_eq_canon VO0_18 VO0_18.junk _ (cover0_A_18 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15)) (ix3 t r b)
  refine Eq.trans e ?_
  rw [list18]
  exact (st_inv Variants.none none c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 A I _ le_rfl).hf t (lt_of_lt_of_eq t.isLt trips.symm) r b

theorem block19 (A : Spec.Args) (I : Ins A x0 x1 x2 x3 x4 x5 x6 x7 x8 x9 x10 x11 x12 x13 x14 x15) (t : Fin 64) (g : Fin 4) (p : Fin 80) (b : Fin 768) :
    out0_A_19 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 (ix4 t g p b) = A.outGh t g p b := by
  have e := congrFun (View.read_writes_eq_canon VO0_19 VO0_19.junk _ (cover0_A_19 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15)) (ix4 t g p b)
  refine Eq.trans e ?_
  rw [list19]
  exact (st_inv Variants.none none c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 A I _ le_rfl).gh t (lt_of_lt_of_eq t.isLt trips.symm) g p b

theorem block20 (A : Spec.Args) (I : Ins A x0 x1 x2 x3 x4 x5 x6 x7 x8 x9 x10 x11 x12 x13 x14 x15) (t : Fin 64) (b : Fin 768) (n : Fin 1280) :
    out0_A_20 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 (ix3 t b n) = A.outM t b n := by
  have e := congrFun (View.read_writes_eq_canon VO0_20 VO0_20.junk _ (cover0_A_20 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15)) (ix3 t b n)
  refine Eq.trans e ?_
  rw [list20]
  exact (st_inv Variants.none none c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 A I _ le_rfl).m t (lt_of_lt_of_eq t.isLt trips.symm) b n

theorem block21 (A : Spec.Args) (I : Ins A x0 x1 x2 x3 x4 x5 x6 x7 x8 x9 x10 x11 x12 x13 x14 x15) (t : Fin 64) (b : Fin 768) (n : Fin 1280) :
    out0_A_21 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 (ix3 t b n) = A.outC t b n := by
  have e := congrFun (View.read_writes_eq_canon VO0_21 VO0_21.junk _ (cover0_A_21 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15)) (ix3 t b n)
  refine Eq.trans e ?_
  rw [list21]
  exact (st_inv Variants.none none c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 A I _ le_rfl).c t (lt_of_lt_of_eq t.isLt trips.symm) b n

end Cert.Proof.Ref
end
-- ==== Proof.RefResult.lean ====
/-
  The reference's results, entry by entry.
-/
module

public import proofs.«01_k».proof.Proof.RefOut

@[expose] public section

set_option maxRecDepth 16384

noncomputable section

namespace Cert.Proof.Ref

open Cert.ReferenceIdeal Cert.ReferenceIdeal.Gen Cert.ReferenceIdeal.Value Idealize.ShloMosaic Idealize.ShloMosaic.TcCoe Idealize.SL.Sem Idealize.ShloMosaic.Tactic

variable (m : (ℓ : Loc nD τ sig) → Buf (Elt Ideal) ℓ) (c : Dev nD)

theorem whole4 {n0 n1 n2 n3 : Nat} (e : (⟨4, ![n0, n1, n2, n3]⟩ : Shape).Idx) (i : Fin n0) (j : Fin n1) (k : Fin n2) (l : Fin n3)
    (h0 : (e 0).val = 0 * n0 + 1 * i.val) (h1 : (e 1).val = 0 * n1 + 1 * j.val) (h2 : (e 2).val = 0 * n2 + 1 * k.val)
    (h3 : (e 3).val = 0 * n3 + 1 * l.val) : e = ix4 i j k l := by
  funext a; apply Fin.ext
  match a with
  | ⟨0, _⟩ => exact h0.trans (by show 0 * n0 + 1 * i.val = i.val; omega)
  | ⟨1, _⟩ => exact h1.trans (by show 0 * n1 + 1 * j.val = j.val; omega)
  | ⟨2, _⟩ => exact h2.trans (by show 0 * n2 + 1 * k.val = k.val; omega)
  | ⟨3, _⟩ => exact h3.trans (by show 0 * n3 + 1 * l.val = l.val; omega)

/-- The grid's point. -/
abbrev pt : Fin cfg0.N := t0_0

/-- The windows' blocks are the inputs. -/
theorem ins : Ins (rArgs m c) (iblk m c 0 pt) (iblk m c 1 pt) (iblk m c 2 pt) (iblk m c 3 pt) (iblk m c 4 pt) (iblk m c 5 pt) (iblk m c 6 pt) (iblk m c 7 pt) (iblk m c 8 pt) (iblk m c 9 pt) (iblk m c 10 pt) (iblk m c 11 pt) (iblk m c 12 pt) (iblk m c 13 pt) (iblk m c 14 pt) (iblk m c 15 pt) :=
  ⟨blk0 m c pt, blk1 m c pt, blk2 m c pt, blk3 m c pt, blk4 m c pt, blk5 m c pt, blk6 m c pt, blk7 m c pt, blk8 m c pt, blk9 m c pt, blk10 m c pt, blk11 m c pt, blk12 m c pt, blk13 m c pt, blk14 m c pt, blk15 m c pt⟩

theorem res16 (t : Fin 64) (r : Fin 320) (b : Fin 768) : ((dats m 0 c).arrAt 16 cfg0.N : Vec Ideal S64x320x768 .i8) (ix3 t r b) = (rArgs m c).outH t r b := by
  have e := congrFun ((blocks16 m c pt (flush0_16 pt)).trans (flushed16_A m c pt)) (ix3 t r b : S64x320x768.Idx)
  have e1 : ((cfg0.win 16).blk pt).view.emb (ix3 t r b : S64x320x768.Idx) = (ix3 t r b : S64x320x768.Idx) := whole3 _ t r b rfl rfl rfl
  refine Eq.trans ?_ (e.trans ?_)
  · exact (congrArg (fun y : S64x320x768.Idx => ((dats m 0 c).arrAt 16 cfg0.N : Vec Ideal S64x320x768 .i8) y) e1).symm
  · exact block16 (c := c) (arg0 := ms0_0 pt) (harg0 := hs0_0 pt) (arg1 := ms0_1 pt) (harg1 := hs0_1 pt) (arg2 := ms0_2 pt) (harg2 := hs0_2 pt) (arg3 := ms0_3 pt) (harg3 := hs0_3 pt) (arg4 := ms0_4 pt) (harg4 := hs0_4 pt) (arg5 := ms0_5 pt) (harg5 := hs0_5 pt) (arg6 := ms0_6 pt) (harg6 := hs0_6 pt) (arg7 := ms0_7 pt) (harg7 := hs0_7 pt) (arg8 := ms0_8 pt) (harg8 := hs0_8 pt) (arg9 := ms0_9 pt) (harg9 := hs0_9 pt) (arg10 := ms0_10 pt) (harg10 := hs0_10 pt) (arg11 := ms0_11 pt) (harg11 := hs0_11 pt) (arg12 := ms0_12 pt) (harg12 := hs0_12 pt) (arg13 := ms0_13 pt) (harg13 := hs0_13 pt) (arg14 := ms0_14 pt) (harg14 := hs0_14 pt) (arg15 := ms0_15 pt) (harg15 := hs0_15 pt) (arg16 := ms0_16 pt) (harg16 := hs0_16 pt) (arg17 := ms0_17 pt) (harg17 := hs0_17 pt) (arg18 := ms0_18 pt) (harg18 := hs0_18 pt) (arg19 := ms0_19 pt) (harg19 := hs0_19 pt) (arg20 := ms0_20 pt) (harg20 := hs0_20 pt) (arg21 := ms0_21 pt) (harg21 := hs0_21 pt) (I := ins m c) (t := t) (r := r) (b := b)

theorem res17 (t : Fin 64) (b : Fin 768) : ((dats m 0 c).arrAt 17 cfg0.N : Vec Ideal S64x1x768 .f32) (ix3 t 0 b) = (rArgs m c).outS t b := by
  have e := congrFun ((blocks17 m c pt (flush0_17 pt)).trans (flushed17_A m c pt)) (ix3 t 0 b : S64x1x768.Idx)
  have e1 : ((cfg0.win 17).blk pt).view.emb (ix3 t 0 b : S64x1x768.Idx) = (ix3 t 0 b : S64x1x768.Idx) := whole3 _ t 0 b rfl rfl rfl
  refine Eq.trans ?_ (e.trans ?_)
  · exact (congrArg (fun y : S64x1x768.Idx => ((dats m 0 c).arrAt 17 cfg0.N : Vec Ideal S64x1x768 .f32) y) e1).symm
  · exact block17 (c := c) (arg0 := ms0_0 pt) (harg0 := hs0_0 pt) (arg1 := ms0_1 pt) (harg1 := hs0_1 pt) (arg2 := ms0_2 pt) (harg2 := hs0_2 pt) (arg3 := ms0_3 pt) (harg3 := hs0_3 pt) (arg4 := ms0_4 pt) (harg4 := hs0_4 pt) (arg5 := ms0_5 pt) (harg5 := hs0_5 pt) (arg6 := ms0_6 pt) (harg6 := hs0_6 pt) (arg7 := ms0_7 pt) (harg7 := hs0_7 pt) (arg8 := ms0_8 pt) (harg8 := hs0_8 pt) (arg9 := ms0_9 pt) (harg9 := hs0_9 pt) (arg10 := ms0_10 pt) (harg10 := hs0_10 pt) (arg11 := ms0_11 pt) (harg11 := hs0_11 pt) (arg12 := ms0_12 pt) (harg12 := hs0_12 pt) (arg13 := ms0_13 pt) (harg13 := hs0_13 pt) (arg14 := ms0_14 pt) (harg14 := hs0_14 pt) (arg15 := ms0_15 pt) (harg15 := hs0_15 pt) (arg16 := ms0_16 pt) (harg16 := hs0_16 pt) (arg17 := ms0_17 pt) (harg17 := hs0_17 pt) (arg18 := ms0_18 pt) (harg18 := hs0_18 pt) (arg19 := ms0_19 pt) (harg19 := hs0_19 pt) (arg20 := ms0_20 pt) (harg20 := hs0_20 pt) (arg21 := ms0_21 pt) (harg21 := hs0_21 pt) (I := ins m c) (t := t) (b := b)

theorem res18 (t : Fin 64) (r : Fin 320) (b : Fin 768) : ((dats m 0 c).arrAt 18 cfg0.N : Vec Ideal S64x320x768 .f32) (ix3 t r b) = (rArgs m c).outHf t r b := by
  have e := congrFun ((blocks18 m c pt (flush0_18 pt)).trans (flushed18_A m c pt)) (ix3 t r b : S64x320x768.Idx)
  have e1 : ((cfg0.win 18).blk pt).view.emb (ix3 t r b : S64x320x768.Idx) = (ix3 t r b : S64x320x768.Idx) := whole3 _ t r b rfl rfl rfl
  refine Eq.trans ?_ (e.trans ?_)
  · exact (congrArg (fun y : S64x320x768.Idx => ((dats m 0 c).arrAt 18 cfg0.N : Vec Ideal S64x320x768 .f32) y) e1).symm
  · exact block18 (c := c) (arg0 := ms0_0 pt) (harg0 := hs0_0 pt) (arg1 := ms0_1 pt) (harg1 := hs0_1 pt) (arg2 := ms0_2 pt) (harg2 := hs0_2 pt) (arg3 := ms0_3 pt) (harg3 := hs0_3 pt) (arg4 := ms0_4 pt) (harg4 := hs0_4 pt) (arg5 := ms0_5 pt) (harg5 := hs0_5 pt) (arg6 := ms0_6 pt) (harg6 := hs0_6 pt) (arg7 := ms0_7 pt) (harg7 := hs0_7 pt) (arg8 := ms0_8 pt) (harg8 := hs0_8 pt) (arg9 := ms0_9 pt) (harg9 := hs0_9 pt) (arg10 := ms0_10 pt) (harg10 := hs0_10 pt) (arg11 := ms0_11 pt) (harg11 := hs0_11 pt) (arg12 := ms0_12 pt) (harg12 := hs0_12 pt) (arg13 := ms0_13 pt) (harg13 := hs0_13 pt) (arg14 := ms0_14 pt) (harg14 := hs0_14 pt) (arg15 := ms0_15 pt) (harg15 := hs0_15 pt) (arg16 := ms0_16 pt) (harg16 := hs0_16 pt) (arg17 := ms0_17 pt) (harg17 := hs0_17 pt) (arg18 := ms0_18 pt) (harg18 := hs0_18 pt) (arg19 := ms0_19 pt) (harg19 := hs0_19 pt) (arg20 := ms0_20 pt) (harg20 := hs0_20 pt) (arg21 := ms0_21 pt) (harg21 := hs0_21 pt) (I := ins m c) (t := t) (r := r) (b := b)

theorem res19 (t : Fin 64) (g : Fin 4) (p : Fin 80) (b : Fin 768) : ((dats m 0 c).arrAt 19 cfg0.N : Vec Ideal S64x4x80x768 .f32) (ix4 t g p b) = (rArgs m c).outGh t g p b := by
  have e := congrFun ((blocks19 m c pt (flush0_19 pt)).trans (flushed19_A m c pt)) (ix4 t g p b : S64x4x80x768.Idx)
  have e1 : ((cfg0.win 19).blk pt).view.emb (ix4 t g p b : S64x4x80x768.Idx) = (ix4 t g p b : S64x4x80x768.Idx) := whole4 _ t g p b rfl rfl rfl rfl
  refine Eq.trans ?_ (e.trans ?_)
  · exact (congrArg (fun y : S64x4x80x768.Idx => ((dats m 0 c).arrAt 19 cfg0.N : Vec Ideal S64x4x80x768 .f32) y) e1).symm
  · exact block19 (c := c) (arg0 := ms0_0 pt) (harg0 := hs0_0 pt) (arg1 := ms0_1 pt) (harg1 := hs0_1 pt) (arg2 := ms0_2 pt) (harg2 := hs0_2 pt) (arg3 := ms0_3 pt) (harg3 := hs0_3 pt) (arg4 := ms0_4 pt) (harg4 := hs0_4 pt) (arg5 := ms0_5 pt) (harg5 := hs0_5 pt) (arg6 := ms0_6 pt) (harg6 := hs0_6 pt) (arg7 := ms0_7 pt) (harg7 := hs0_7 pt) (arg8 := ms0_8 pt) (harg8 := hs0_8 pt) (arg9 := ms0_9 pt) (harg9 := hs0_9 pt) (arg10 := ms0_10 pt) (harg10 := hs0_10 pt) (arg11 := ms0_11 pt) (harg11 := hs0_11 pt) (arg12 := ms0_12 pt) (harg12 := hs0_12 pt) (arg13 := ms0_13 pt) (harg13 := hs0_13 pt) (arg14 := ms0_14 pt) (harg14 := hs0_14 pt) (arg15 := ms0_15 pt) (harg15 := hs0_15 pt) (arg16 := ms0_16 pt) (harg16 := hs0_16 pt) (arg17 := ms0_17 pt) (harg17 := hs0_17 pt) (arg18 := ms0_18 pt) (harg18 := hs0_18 pt) (arg19 := ms0_19 pt) (harg19 := hs0_19 pt) (arg20 := ms0_20 pt) (harg20 := hs0_20 pt) (arg21 := ms0_21 pt) (harg21 := hs0_21 pt) (I := ins m c) (t := t) (g := g) (p := p) (b := b)

theorem res20 (t : Fin 64) (b : Fin 768) (n : Fin 1280) : ((dats m 0 c).arrAt 20 cfg0.N : Vec Ideal S64x768x1280 .i8) (ix3 t b n) = (rArgs m c).outM t b n := by
  have e := congrFun ((blocks20 m c pt (flush0_20 pt)).trans (flushed20_A m c pt)) (ix3 t b n : S64x768x1280.Idx)
  have e1 : ((cfg0.win 20).blk pt).view.emb (ix3 t b n : S64x768x1280.Idx) = (ix3 t b n : S64x768x1280.Idx) := whole3 _ t b n rfl rfl rfl
  refine Eq.trans ?_ (e.trans ?_)
  · exact (congrArg (fun y : S64x768x1280.Idx => ((dats m 0 c).arrAt 20 cfg0.N : Vec Ideal S64x768x1280 .i8) y) e1).symm
  · exact block20 (c := c) (arg0 := ms0_0 pt) (harg0 := hs0_0 pt) (arg1 := ms0_1 pt) (harg1 := hs0_1 pt) (arg2 := ms0_2 pt) (harg2 := hs0_2 pt) (arg3 := ms0_3 pt) (harg3 := hs0_3 pt) (arg4 := ms0_4 pt) (harg4 := hs0_4 pt) (arg5 := ms0_5 pt) (harg5 := hs0_5 pt) (arg6 := ms0_6 pt) (harg6 := hs0_6 pt) (arg7 := ms0_7 pt) (harg7 := hs0_7 pt) (arg8 := ms0_8 pt) (harg8 := hs0_8 pt) (arg9 := ms0_9 pt) (harg9 := hs0_9 pt) (arg10 := ms0_10 pt) (harg10 := hs0_10 pt) (arg11 := ms0_11 pt) (harg11 := hs0_11 pt) (arg12 := ms0_12 pt) (harg12 := hs0_12 pt) (arg13 := ms0_13 pt) (harg13 := hs0_13 pt) (arg14 := ms0_14 pt) (harg14 := hs0_14 pt) (arg15 := ms0_15 pt) (harg15 := hs0_15 pt) (arg16 := ms0_16 pt) (harg16 := hs0_16 pt) (arg17 := ms0_17 pt) (harg17 := hs0_17 pt) (arg18 := ms0_18 pt) (harg18 := hs0_18 pt) (arg19 := ms0_19 pt) (harg19 := hs0_19 pt) (arg20 := ms0_20 pt) (harg20 := hs0_20 pt) (arg21 := ms0_21 pt) (harg21 := hs0_21 pt) (I := ins m c) (t := t) (b := b) (n := n)

theorem res21 (t : Fin 64) (b : Fin 768) (n : Fin 1280) : ((dats m 0 c).arrAt 21 cfg0.N : Vec Ideal S64x768x1280 .f32) (ix3 t b n) = (rArgs m c).outC t b n := by
  have e := congrFun ((blocks21 m c pt (flush0_21 pt)).trans (flushed21_A m c pt)) (ix3 t b n : S64x768x1280.Idx)
  have e1 : ((cfg0.win 21).blk pt).view.emb (ix3 t b n : S64x768x1280.Idx) = (ix3 t b n : S64x768x1280.Idx) := whole3 _ t b n rfl rfl rfl
  refine Eq.trans ?_ (e.trans ?_)
  · exact (congrArg (fun y : S64x768x1280.Idx => ((dats m 0 c).arrAt 21 cfg0.N : Vec Ideal S64x768x1280 .f32) y) e1).symm
  · exact block21 (c := c) (arg0 := ms0_0 pt) (harg0 := hs0_0 pt) (arg1 := ms0_1 pt) (harg1 := hs0_1 pt) (arg2 := ms0_2 pt) (harg2 := hs0_2 pt) (arg3 := ms0_3 pt) (harg3 := hs0_3 pt) (arg4 := ms0_4 pt) (harg4 := hs0_4 pt) (arg5 := ms0_5 pt) (harg5 := hs0_5 pt) (arg6 := ms0_6 pt) (harg6 := hs0_6 pt) (arg7 := ms0_7 pt) (harg7 := hs0_7 pt) (arg8 := ms0_8 pt) (harg8 := hs0_8 pt) (arg9 := ms0_9 pt) (harg9 := hs0_9 pt) (arg10 := ms0_10 pt) (harg10 := hs0_10 pt) (arg11 := ms0_11 pt) (harg11 := hs0_11 pt) (arg12 := ms0_12 pt) (harg12 := hs0_12 pt) (arg13 := ms0_13 pt) (harg13 := hs0_13 pt) (arg14 := ms0_14 pt) (harg14 := hs0_14 pt) (arg15 := ms0_15 pt) (harg15 := hs0_15 pt) (arg16 := ms0_16 pt) (harg16 := hs0_16 pt) (arg17 := ms0_17 pt) (harg17 := hs0_17 pt) (arg18 := ms0_18 pt) (harg18 := hs0_18 pt) (arg19 := ms0_19 pt) (harg19 := hs0_19 pt) (arg20 := ms0_20 pt) (harg20 := hs0_20 pt) (arg21 := ms0_21 pt) (harg21 := hs0_21 pt) (I := ins m c) (t := t) (b := b) (n := n)

end Cert.Proof.Ref
end
-- ==== Proof.lean ====
/- The claims' proofs are assembled here. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Pre_m_scale_not_zero
public import proofs.«01_k».proof.Proof.Steps
public import proofs.«01_k».proof.Proof.RefResult

@[expose] public section

set_option maxRecDepth 16384

noncomputable section

namespace Cert.Proof

open Idealize.ShloMosaic Idealize.ShloMosaic.TcCoe Idealize.SL.Sem

/-- The named constant is what its name says over the reals. -/
theorem preserves : Cert.preserves_Kernel_KernelIdeal :=
  IdealRules.named_const.statement Cert.KernelIdeal.κ "inv_cell" .f32 0x3A4CCCCD#32 _ rfl

/-- The precondition: the cells' scale is not zero. -/
theorem ms_ne {m : (ℓ : Loc Cert.KernelIdeal.nD Cert.KernelIdeal.τ Cert.KernelIdeal.sig) → Buf (Elt Ideal) ℓ}
    (h : Cert.Pre_KernelIdeal_m_scale_not_zero m) (c : Dev Cert.KernelIdeal.nD) : (Model.kArgs m c).ms ≠ 0 := by
  intro e
  have h1 := congrFun (h c) ix0
  have h2 : FloatOps.cmpf (F := Ideal) (φ := .f32) .une (Model.kArgs m c).ms (Ideal.ofBits .f32 0x00000000#32) = 1#1 := h1
  rw [e] at h2
  revert h2
  simp [FloatOps.cmpf, Idealize.ShloMosaic.Ideal.cmp]

section Same

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}

theorem same0 (h : ∀ c, Ref.rArgs m' c = Model.kArgs m c) (hpre : Cert.Pre_KernelIdeal_m_scale_not_zero m) (c : Dev Cert.KernelIdeal.nD)
    (y : Cert.KernelIdeal.S64x320x768.Idx) : ((Cert.ReferenceIdeal.Gen.dats m' 0 c).arrAt 16 Cert.ReferenceIdeal.cfg0.N : Vec Ideal Cert.KernelIdeal.S64x320x768 .i8) y
      = Cert.KernelIdeal.Value.G18 m c y := by
  obtain ⟨t, r, b, rfl⟩ : ∃ (t : Fin 64) (r : Fin 320) (b : Fin 768), y = ix3 t r b := ⟨y 0, y 1, y 2, eq_ix3 y⟩
  exact (Ref.res16 m' c t r b).trans ((congrArg (fun A => Spec.Args.outH A t r b) (h c)).trans (Model.out18 m c (ms_ne hpre c) t r b).symm)

theorem same1 (h : ∀ c, Ref.rArgs m' c = Model.kArgs m c) (hpre : Cert.Pre_KernelIdeal_m_scale_not_zero m) (c : Dev Cert.KernelIdeal.nD)
    (y : Cert.KernelIdeal.S64x1x768.Idx) : ((Cert.ReferenceIdeal.Gen.dats m' 0 c).arrAt 17 Cert.ReferenceIdeal.cfg0.N : Vec Ideal Cert.KernelIdeal.S64x1x768 .f32) y
      = Cert.KernelIdeal.Value.G19 m c y := by
  obtain ⟨t, b, rfl⟩ : ∃ (t : Fin 64) (b : Fin 768), y = ix3 t 0 b := ⟨y 0, y 2, (eq_ix3 y).trans (by rw [show y 1 = (0 : Fin 1) from Fin.ext (by have h : (y 1).val < 1 := (y 1).isLt; show (y 1).val = 0; omega)])⟩
  exact (Ref.res17 m' c t b).trans ((congrArg (fun A => Spec.Args.outS A t b) (h c)).trans (Model.out19 m c (ms_ne hpre c) t b).symm)

theorem same2 (h : ∀ c, Ref.rArgs m' c = Model.kArgs m c) (hpre : Cert.Pre_KernelIdeal_m_scale_not_zero m) (c : Dev Cert.KernelIdeal.nD)
    (y : Cert.KernelIdeal.S64x320x768.Idx) : ((Cert.ReferenceIdeal.Gen.dats m' 0 c).arrAt 18 Cert.ReferenceIdeal.cfg0.N : Vec Ideal Cert.KernelIdeal.S64x320x768 .f32) y
      = Cert.KernelIdeal.Value.G20 m c y := by
  obtain ⟨t, r, b, rfl⟩ : ∃ (t : Fin 64) (r : Fin 320) (b : Fin 768), y = ix3 t r b := ⟨y 0, y 1, y 2, eq_ix3 y⟩
  exact (Ref.res18 m' c t r b).trans ((congrArg (fun A => Spec.Args.outHf A t r b) (h c)).trans (Model.out20 m c (ms_ne hpre c) t r b).symm)

theorem same3 (h : ∀ c, Ref.rArgs m' c = Model.kArgs m c) (hpre : Cert.Pre_KernelIdeal_m_scale_not_zero m) (c : Dev Cert.KernelIdeal.nD)
    (y : Cert.KernelIdeal.S64x4x80x768.Idx) : ((Cert.ReferenceIdeal.Gen.dats m' 0 c).arrAt 19 Cert.ReferenceIdeal.cfg0.N : Vec Ideal Cert.KernelIdeal.S64x4x80x768 .f32) y
      = Cert.KernelIdeal.Value.G21 m c y := by
  obtain ⟨t, g, p, b, rfl⟩ : ∃ (t : Fin 64) (g : Fin 4) (p : Fin 80) (b : Fin 768), y = ix4 t g p b := ⟨y 0, y 1, y 2, y 3, eq_ix4 y⟩
  exact (Ref.res19 m' c t g p b).trans ((congrArg (fun A => Spec.Args.outGh A t g p b) (h c)).trans (Model.out21 m c (ms_ne hpre c) t g p b).symm)

theorem same4 (h : ∀ c, Ref.rArgs m' c = Model.kArgs m c) (hpre : Cert.Pre_KernelIdeal_m_scale_not_zero m) (c : Dev Cert.KernelIdeal.nD)
    (y : Cert.KernelIdeal.S64x768x1280.Idx) : ((Cert.ReferenceIdeal.Gen.dats m' 0 c).arrAt 20 Cert.ReferenceIdeal.cfg0.N : Vec Ideal Cert.KernelIdeal.S64x768x1280 .i8) y
      = Cert.KernelIdeal.Value.G22 m c y := by
  obtain ⟨t, b, n, rfl⟩ : ∃ (t : Fin 64) (b : Fin 768) (n : Fin 1280), y = ix3 t b n := ⟨y 0, y 1, y 2, eq_ix3 y⟩
  exact (Ref.res20 m' c t b n).trans ((congrArg (fun A => Spec.Args.outM A t b n) (h c)).trans (Model.out22 m c (ms_ne hpre c) t b n).symm)

theorem same5 (h : ∀ c, Ref.rArgs m' c = Model.kArgs m c) (hpre : Cert.Pre_KernelIdeal_m_scale_not_zero m) (c : Dev Cert.KernelIdeal.nD)
    (y : Cert.KernelIdeal.S64x768x1280.Idx) : ((Cert.ReferenceIdeal.Gen.dats m' 0 c).arrAt 21 Cert.ReferenceIdeal.cfg0.N : Vec Ideal Cert.KernelIdeal.S64x768x1280 .f32) y
      = Cert.KernelIdeal.Value.G23 m c y := by
  obtain ⟨t, b, n, rfl⟩ : ∃ (t : Fin 64) (b : Fin 768) (n : Fin 1280), y = ix3 t b n := ⟨y 0, y 1, y 2, eq_ix3 y⟩
  exact (Ref.res21 m' c t b n).trans ((congrArg (fun A => Spec.Args.outC A t b n) (h c)).trans (Model.out23 m c (ms_ne hpre c) t b n).symm)

end Same

/-- The reference's results on the kernel's inputs are the kernel's. -/
theorem algebraic : Cert.algebraic_KernelIdeal_ReferenceIdeal_pre_m_scale_not_zero := by
  intro m g m' g' hpre hin
  have hA : ∀ c : Dev Cert.KernelIdeal.nD, Ref.rArgs m' c = Model.kArgs m c := fun c => by
    obtain ⟨h0, h1, h2, h3, h4, h5, h6, h7, h8, h9, h10, h11, h12, h13, h14, h15⟩ := hin c
    exact Spec.Args.ext
      (funext fun b => funext fun t => funext fun k => congrFun h0 (ix3 b t k))
      (funext fun b => funext fun t => congrFun h1 (ix2 b t))
      (funext fun b => congrFun h2 (ix1 b))
      (funext fun b => congrFun h3 (ix1 b))
      (funext fun n => funext fun k => congrFun h4 (ix2 n k))
      (funext fun n => congrFun h5 (ix1 n))
      (funext fun n => funext fun k => congrFun h6 (ix2 n k))
      (funext fun n => congrFun h7 (ix1 n))
      (funext fun g => funext fun n => congrFun h8 (ix2 g n))
      (funext fun g => funext fun n => congrFun h9 (ix2 g n))
      (funext fun r => funext fun n => congrFun h10 (ix2 r n))
      (funext fun r => congrFun h11 (ix1 r))
      (congrFun h12 (ix0))
      (funext fun b => funext fun r => congrFun h13 (ix2 b r))
      (funext fun b => congrFun h14 (ix1 b))
      (funext fun b => funext fun n => congrFun h15 (ix2 b n))
  refine ⟨fun c => Cert.KernelIdeal.Value.G18 m c, fun c => Cert.KernelIdeal.Value.G19 m c, fun c => Cert.KernelIdeal.Value.G20 m c,
    fun c => Cert.KernelIdeal.Value.G21 m c, fun c => Cert.KernelIdeal.Value.G22 m c, fun c => Cert.KernelIdeal.Value.G23 m c,
    Cert.KernelIdeal.Value.run m g, ?_⟩
  refine θ_run_mono (Cert.ReferenceIdeal.Value.run_blocks m' g') fun r h c => ?_
  obtain ⟨h0, h1, h2, h3, h4, h5, hargs⟩ := h c
  refine ⟨h0.trans (funext fun y => ?_), h1.trans (funext fun y => ?_), h2.trans (funext fun y => ?_), h3.trans (funext fun y => ?_),
    h4.trans (funext fun y => ?_), h5.trans (funext fun y => ?_), hargs⟩
  · exact same0 hA hpre c y
  · exact same1 hA hpre c y
  · exact same2 hA hpre c y
  · exact same3 hA hpre c y
  · exact same4 hA hpre c y
  · exact same5 hA hpre c y

theorem claim : Cert.Claim := ⟨Cert.Kernel.Gen.facts, Cert.KernelIdeal.Gen.facts, Cert.ReferenceIdeal.Gen.facts, Cert.Pre_m_scale_not_zero.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, preserves, algebraic⟩

end Cert.Proof

end
